-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x64 : Shape := ⟨2, ![4096, 64]⟩
abbrev S4096x4096 : Shape := ⟨2, ![4096, 4096]⟩
abbrev S64x64 : Shape := ⟨2, ![64, 64]⟩
abbrev S64 : Shape := ⟨1, ![64]⟩
abbrev S1x64 : Shape := ⟨2, ![1, 64]⟩
abbrev S2x512x4096 : Shape := ⟨3, ![2, 512, 4096]⟩
abbrev S2 : Shape := ⟨1, ![2]⟩
abbrev S2x512x64 : Shape := ⟨3, ![2, 512, 64]⟩
abbrev S1 : Shape := ⟨1, ![1]⟩
abbrev S_ : Shape := ⟨0, ![]⟩
abbrev S1x512x4096 : Shape := ⟨3, ![1, 512, 4096]⟩
abbrev S512x4096 : Shape := ⟨2, ![512, 4096]⟩
abbrev S512x64 : Shape := ⟨2, ![512, 64]⟩
abbrev S1x512x64 : Shape := ⟨3, ![1, 512, 64]⟩

abbrev nBuf : Space → Nat
  | .hbm => 6
  | .vmem => 6
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S64x64, .f32⟩
  | .hbm, ⟨3, _⟩ => ⟨S64, .f32⟩
  | .hbm, ⟨4, _⟩ => ⟨S1x64, .f32⟩
  | .hbm, ⟨5, _⟩ => ⟨S4096x64, .f32⟩
  | .local _ .vmem, ⟨0, _⟩ => ⟨S4096x64, .f32⟩
  | .local _ .vmem, ⟨1, _⟩ => ⟨S64x64, .f32⟩
  | .local _ .vmem, ⟨2, _⟩ => ⟨S1x64, .f32⟩
  | .local _ .vmem, ⟨3, _⟩ => ⟨S4096x64, .bf16⟩
  | .local _ .vmem, ⟨4, _⟩ => ⟨S2x512x4096, .f32⟩
  | .local _ .vmem, ⟨5, _⟩ => ⟨S2x512x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scoped0 : Ref sig .tc := ⟨.vmem, 4, rfl⟩
abbrev cc0_scoped2 : Ref sig .tc := ⟨.vmem, 5, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_off1 : Fin 1 → Nat :=
  let c0_i32_17_r0 : BitVec 32 := 0#32
  let c2_i32_r0 : BitVec 32 := 2#32
  let v22_r0 : BitVec 32 := Scalar.remui c0_i32_17_r0 c2_i32_r0
  ![v22_r0.toNat]
def k0_off2 : Fin 3 → Nat :=
  let c0_i32_17_r0 : BitVec 32 := 0#32
  let c2_i32_r0 : BitVec 32 := 2#32
  let v22_r0 : BitVec 32 := Scalar.remui c0_i32_17_r0 c2_i32_r0
  let c0_i32_18_r0 : BitVec 32 := 0#32
  let c0_i32_19_r0 : BitVec 32 := 0#32
  ![v22_r0.toNat, 0, 0]
@[reducible] def k0_t1_loop : Scf.Loop 32 :=
  let c0_i32_28_r0 : BitVec 32 := 0#32
  let c8_i32_29_r0 : BitVec 32 := 8#32
  let v29_r0 : BitVec 32 := Scalar.addi c0_i32_28_r0 c8_i32_29_r0
  let c1_i32_30_r0 : BitVec 32 := 1#32
  ⟨c0_i32_28_r0, v29_r0, c1_i32_30_r0⟩
def k0_off3 (arg7_r0 : BitVec 32) : Fin 1 → Nat :=
  let c2_i32_113_r0 : BitVec 32 := 2#32
  let v152_r0 : BitVec 32 := Scalar.remui arg7_r0 c2_i32_113_r0
  ![v152_r0.toNat]
def k0_cond1 (k0_t1 : Fin k0_t1_loop.trips) (arg11_r0 : BitVec 32) : BitVec 1 :=
  let c0_i32_58_r0 : BitVec 32 := 0#32
  let v60_r0 : BitVec 32 := Scalar.addi arg11_r0 c0_i32_58_r0
  let true_65_r0 : BitVec 1 := 1#1
  let c1_i32_64_r0 : BitVec 32 := 1#32
  let v66_r0 : BitVec 32 := Scalar.addi arg11_r0 c1_i32_64_r0
  let v67_r0 : BitVec 32 := Scalar.select true_65_r0 v66_r0 arg11_r0
  let c8_i32_66_r0 : BitVec 32 := 8#32
  let v68_r0 : BitVec 1 := Scalar.cmpi .eq v67_r0 c8_i32_66_r0
  let c0_i32_67_r0 : BitVec 32 := 0#32
  let v69_r0 : BitVec 32 := Scalar.select v68_r0 c0_i32_67_r0 v67_r0
  let c0_i32_68_r0 : BitVec 32 := 0#32
  let v70_r0 : BitVec 32 := Scalar.addi v69_r0 c0_i32_68_r0
  let v76_r0 : BitVec 1 := Scalar.cmpi .ne v60_r0 v70_r0
  let c0_i32_28_r0 : BitVec 32 := 0#32
  let c1_i32_30_r0 : BitVec 32 := 1#32
  let arg6_r0 : BitVec 32 := Scf.iv c0_i32_28_r0 c1_i32_30_r0 k0_t1
  let c7_i32_74_r0 : BitVec 32 := 7#32
  let v77_r0 : BitVec 1 := Scalar.cmpi .sge arg6_r0 c7_i32_74_r0
  let true_75_r0 : BitVec 1 := 1#1
  let v78_r0 : BitVec 1 := Scalar.xori v77_r0 true_75_r0
  let v79_r0 : BitVec 1 := Scalar.andi v76_r0 v78_r0
  let true_76_r0 : BitVec 1 := 1#1
  let v80_r0 : BitVec 1 := Scalar.andi v79_r0 true_76_r0
  let v81_r0 : BitVec 32 := Scalar.extui v80_r0
  let c0_i32_77_r0 : BitVec 32 := 0#32
  let v82_r0 : BitVec 1 := Scalar.cmpi .ne v81_r0 c0_i32_77_r0
  v82_r0

def k0_off4 (arg7_r0 : BitVec 32) : Fin 3 → Nat :=
  let c2_i32_113_r0 : BitVec 32 := 2#32
  let v152_r0 : BitVec 32 := Scalar.remui arg7_r0 c2_i32_113_r0
  let c0_i32_115_r0 : BitVec 32 := 0#32
  let c0_i32_116_r0 : BitVec 32 := 0#32
  ![v152_r0.toNat, 0, 0]
def k0_off5 (arg11_r0 : BitVec 32) : Fin 2 → Nat :=
  let c512_i32_114_r0 : BitVec 32 := 512#32
  let true_65_r0 : BitVec 1 := 1#1
  let c1_i32_64_r0 : BitVec 32 := 1#32
  let v66_r0 : BitVec 32 := Scalar.addi arg11_r0 c1_i32_64_r0
  let v67_r0 : BitVec 32 := Scalar.select true_65_r0 v66_r0 arg11_r0
  let c8_i32_66_r0 : BitVec 32 := 8#32
  let v68_r0 : BitVec 1 := Scalar.cmpi .eq v67_r0 c8_i32_66_r0
  let c0_i32_67_r0 : BitVec 32 := 0#32
  let v69_r0 : BitVec 32 := Scalar.select v68_r0 c0_i32_67_r0 v67_r0
  let c0_i32_68_r0 : BitVec 32 := 0#32
  let v70_r0 : BitVec 32 := Scalar.addi v69_r0 c0_i32_68_r0
  let v153_r0 : BitVec 32 := Scalar.muli c512_i32_114_r0 v70_r0
  let c0_i32_117_r0 : BitVec 32 := 0#32
  ![v153_r0.toNat, 0]
def k0_off6 (arg8_r0 : BitVec 32) : Fin 1 → Nat :=
  let c2_i32_114_r0 : BitVec 32 := 2#32
  let v153_r0 : BitVec 32 := Scalar.remui arg8_r0 c2_i32_114_r0
  ![v153_r0.toNat]
def k0_cond2 (k0_t1 : Fin k0_t1_loop.trips) (arg11_r0 : BitVec 32) : BitVec 1 :=
  let c0_i32_58_r0 : BitVec 32 := 0#32
  let v60_r0 : BitVec 32 := Scalar.addi arg11_r0 c0_i32_58_r0
  let true_60_r0 : BitVec 1 := 1#1
  let c1_i32_59_r0 : BitVec 32 := 1#32
  let v61_r0 : BitVec 32 := Scalar.subi arg11_r0 c1_i32_59_r0
  let v62_r0 : BitVec 32 := Scalar.select true_60_r0 v61_r0 arg11_r0
  let c_m1_i32_61_r0 : BitVec 32 := 4294967295#32
  let v63_r0 : BitVec 1 := Scalar.cmpi .eq v62_r0 c_m1_i32_61_r0
  let c7_i32_62_r0 : BitVec 32 := 7#32
  let v64_r0 : BitVec 32 := Scalar.select v63_r0 c7_i32_62_r0 v62_r0
  let c0_i32_63_r0 : BitVec 32 := 0#32
  let v65_r0 : BitVec 32 := Scalar.addi v64_r0 c0_i32_63_r0
  let v90_r0 : BitVec 1 := Scalar.cmpi .ne v60_r0 v65_r0
  let c0_i32_28_r0 : BitVec 32 := 0#32
  let c1_i32_30_r0 : BitVec 32 := 1#32
  let arg6_r0 : BitVec 32 := Scf.iv c0_i32_28_r0 c1_i32_30_r0 k0_t1
  let c0_i32_56_r0 : BitVec 32 := 0#32
  let v58_r0 : BitVec 1 := Scalar.cmpi .eq arg6_r0 c0_i32_56_r0
  let v91_r0 : BitVec 1 := Scalar.ori v90_r0 v58_r0
  let c0_i32_82_r0 : BitVec 32 := 0#32
  let v92_r0 : BitVec 1 := Scalar.cmpi .sge arg6_r0 c0_i32_82_r0
  let v93_r0 : BitVec 1 := Scalar.andi v91_r0 v92_r0
  let v94_r0 : BitVec 32 := Scalar.extui v93_r0
  let c0_i32_83_r0 : BitVec 32 := 0#32
  let v95_r0 : BitVec 1 := Scalar.cmpi .ne v94_r0 c0_i32_83_r0
  v95_r0

def k0_off7 (arg8_r0 : BitVec 32) : Fin 3 → Nat :=
  let c2_i32_114_r0 : BitVec 32 := 2#32
  let v153_r0 : BitVec 32 := Scalar.remui arg8_r0 c2_i32_114_r0
  let c0_i32_115_r0 : BitVec 32 := 0#32
  let c0_i32_116_r0 : BitVec 32 := 0#32
  ![v153_r0.toNat, 0, 0]
def k0_off8 (arg11_r0 : BitVec 32) : Fin 2 → Nat :=
  let c512_i32_113_r0 : BitVec 32 := 512#32
  let c0_i32_58_r0 : BitVec 32 := 0#32
  let v60_r0 : BitVec 32 := Scalar.addi arg11_r0 c0_i32_58_r0
  let v152_r0 : BitVec 32 := Scalar.muli c512_i32_113_r0 v60_r0
  let c0_i32_117_r0 : BitVec 32 := 0#32
  ![v152_r0.toNat, 0]
def k0_off9 (arg8_r0 : BitVec 32) : Fin 3 → Nat :=
  let c2_i32_86_r0 : BitVec 32 := 2#32
  let v102_r0 : BitVec 32 := Scalar.remui arg8_r0 c2_i32_86_r0
  let v104_r0 : Index := Scalar.indexCast v102_r0
  let c0_88_r0 : Index := 0#32
  let c0_89_r0 : Index := 0#32
  ![v104_r0.toNat, 0, 0]

def k0_chk2 (arg8_r0 : BitVec 32) : Prop :=
  (∀ a, (k0_off9 arg8_r0) a + S1x512x4096.size a ≤ S2x512x4096.size a)
theorem k0_off9_inb : ∀ (arg8_r0 : BitVec 32) (k0_hw2 : k0_chk2 arg8_r0), ∀ a, (k0_off9 arg8_r0) a + S1x512x4096.size a ≤ S2x512x4096.size a := fun arg8_r0 k0_hw2 => k0_hw2

def k0_off10 (arg9_r0 : BitVec 32) : Fin 3 → Nat :=
  let c2_i32_87_r0 : BitVec 32 := 2#32
  let v103_r0 : BitVec 32 := Scalar.remui arg9_r0 c2_i32_87_r0
  let v114_r0 : Index := Scalar.indexCast v103_r0
  let c0_95_r0 : Index := 0#32
  let c0_96_r0 : Index := 0#32
  ![v114_r0.toNat, 0, 0]

def k0_chk3 (arg9_r0 : BitVec 32) : Prop :=
  (∀ a, (k0_off10 arg9_r0) a + S1x512x64.size a ≤ S2x512x64.size a)
theorem k0_off10_inb : ∀ (arg9_r0 : BitVec 32) (k0_hw3 : k0_chk3 arg9_r0), ∀ a, (k0_off10 arg9_r0) a + S1x512x64.size a ≤ S2x512x64.size a := fun arg9_r0 k0_hw3 => k0_hw3

def k0_off11 (arg9_r0 : BitVec 32) : Fin 1 → Nat :=
  let c2_i32_113_r0 : BitVec 32 := 2#32
  let v152_r0 : BitVec 32 := Scalar.remui arg9_r0 c2_i32_113_r0
  ![v152_r0.toNat]
def k0_cond5 (k0_t1 : Fin k0_t1_loop.trips) (arg11_r0 : BitVec 32) : BitVec 1 :=
  let c0_i32_58_r0 : BitVec 32 := 0#32
  let v60_r0 : BitVec 32 := Scalar.addi arg11_r0 c0_i32_58_r0
  let true_65_r0 : BitVec 1 := 1#1
  let c1_i32_64_r0 : BitVec 32 := 1#32
  let v66_r0 : BitVec 32 := Scalar.addi arg11_r0 c1_i32_64_r0
  let v67_r0 : BitVec 32 := Scalar.select true_65_r0 v66_r0 arg11_r0
  let c8_i32_66_r0 : BitVec 32 := 8#32
  let v68_r0 : BitVec 1 := Scalar.cmpi .eq v67_r0 c8_i32_66_r0
  let c0_i32_67_r0 : BitVec 32 := 0#32
  let v69_r0 : BitVec 32 := Scalar.select v68_r0 c0_i32_67_r0 v67_r0
  let c0_i32_68_r0 : BitVec 32 := 0#32
  let v70_r0 : BitVec 32 := Scalar.addi v69_r0 c0_i32_68_r0
  let v123_r0 : BitVec 1 := Scalar.cmpi .ne v60_r0 v70_r0
  let c0_i32_28_r0 : BitVec 32 := 0#32
  let c1_i32_30_r0 : BitVec 32 := 1#32
  let arg6_r0 : BitVec 32 := Scf.iv c0_i32_28_r0 c1_i32_30_r0 k0_t1
  let c7_i32_57_r0 : BitVec 32 := 7#32
  let v59_r0 : BitVec 1 := Scalar.cmpi .eq arg6_r0 c7_i32_57_r0
  let v124_r0 : BitVec 1 := Scalar.ori v123_r0 v59_r0
  let v125_r0 : BitVec 32 := Scalar.extui v124_r0
  let c0_i32_98_r0 : BitVec 32 := 0#32
  let v126_r0 : BitVec 1 := Scalar.cmpi .ne v125_r0 c0_i32_98_r0
  v126_r0

def k0_off12 (arg11_r0 : BitVec 32) : Fin 2 → Nat :=
  let c512_i32_114_r0 : BitVec 32 := 512#32
  let c0_i32_58_r0 : BitVec 32 := 0#32
  let v60_r0 : BitVec 32 := Scalar.addi arg11_r0 c0_i32_58_r0
  let v153_r0 : BitVec 32 := Scalar.muli c512_i32_114_r0 v60_r0
  let c0_i32_115_r0 : BitVec 32 := 0#32
  ![v153_r0.toNat, 0]
def k0_off13 (arg9_r0 : BitVec 32) : Fin 3 → Nat :=
  let c2_i32_113_r0 : BitVec 32 := 2#32
  let v152_r0 : BitVec 32 := Scalar.remui arg9_r0 c2_i32_113_r0
  let c0_i32_116_r0 : BitVec 32 := 0#32
  let c0_i32_117_r0 : BitVec 32 := 0#32
  ![v152_r0.toNat, 0, 0]
def k0_off14 (arg10_r0 : BitVec 32) : Fin 1 → Nat :=
  let c2_i32_113_r0 : BitVec 32 := 2#32
  let v152_r0 : BitVec 32 := Scalar.remui arg10_r0 c2_i32_113_r0
  ![v152_r0.toNat]
def k0_cond7 (k0_t1 : Fin k0_t1_loop.trips) (arg11_r0 : BitVec 32) : BitVec 1 :=
  let c0_i32_58_r0 : BitVec 32 := 0#32
  let v60_r0 : BitVec 32 := Scalar.addi arg11_r0 c0_i32_58_r0
  let true_60_r0 : BitVec 1 := 1#1
  let c1_i32_59_r0 : BitVec 32 := 1#32
  let v61_r0 : BitVec 32 := Scalar.subi arg11_r0 c1_i32_59_r0
  let v62_r0 : BitVec 32 := Scalar.select true_60_r0 v61_r0 arg11_r0
  let c_m1_i32_61_r0 : BitVec 32 := 4294967295#32
  let v63_r0 : BitVec 1 := Scalar.cmpi .eq v62_r0 c_m1_i32_61_r0
  let c7_i32_62_r0 : BitVec 32 := 7#32
  let v64_r0 : BitVec 32 := Scalar.select v63_r0 c7_i32_62_r0 v62_r0
  let c0_i32_63_r0 : BitVec 32 := 0#32
  let v65_r0 : BitVec 32 := Scalar.addi v64_r0 c0_i32_63_r0
  let v136_r0 : BitVec 1 := Scalar.cmpi .ne v60_r0 v65_r0
  let c0_i32_28_r0 : BitVec 32 := 0#32
  let c1_i32_30_r0 : BitVec 32 := 1#32
  let arg6_r0 : BitVec 32 := Scf.iv c0_i32_28_r0 c1_i32_30_r0 k0_t1
  let c0_i32_56_r0 : BitVec 32 := 0#32
  let v58_r0 : BitVec 1 := Scalar.cmpi .eq arg6_r0 c0_i32_56_r0
  let true_104_r0 : BitVec 1 := 1#1
  let v137_r0 : BitVec 1 := Scalar.xori v58_r0 true_104_r0
  let v138_r0 : BitVec 1 := Scalar.andi v136_r0 v137_r0
  let v139_r0 : BitVec 32 := Scalar.extui v138_r0
  let c0_i32_105_r0 : BitVec 32 := 0#32
  let v140_r0 : BitVec 1 := Scalar.cmpi .ne v139_r0 c0_i32_105_r0
  v140_r0

def k0_off15 (arg11_r0 : BitVec 32) : Fin 2 → Nat :=
  let c512_i32_114_r0 : BitVec 32 := 512#32
  let true_60_r0 : BitVec 1 := 1#1
  let c1_i32_59_r0 : BitVec 32 := 1#32
  let v61_r0 : BitVec 32 := Scalar.subi arg11_r0 c1_i32_59_r0
  let v62_r0 : BitVec 32 := Scalar.select true_60_r0 v61_r0 arg11_r0
  let c_m1_i32_61_r0 : BitVec 32 := 4294967295#32
  let v63_r0 : BitVec 1 := Scalar.cmpi .eq v62_r0 c_m1_i32_61_r0
  let c7_i32_62_r0 : BitVec 32 := 7#32
  let v64_r0 : BitVec 32 := Scalar.select v63_r0 c7_i32_62_r0 v62_r0
  let c0_i32_63_r0 : BitVec 32 := 0#32
  let v65_r0 : BitVec 32 := Scalar.addi v64_r0 c0_i32_63_r0
  let v153_r0 : BitVec 32 := Scalar.muli c512_i32_114_r0 v65_r0
  let c0_i32_115_r0 : BitVec 32 := 0#32
  ![v153_r0.toNat, 0]
def k0_off16 (arg10_r0 : BitVec 32) : Fin 3 → Nat :=
  let c2_i32_113_r0 : BitVec 32 := 2#32
  let v152_r0 : BitVec 32 := Scalar.remui arg10_r0 c2_i32_113_r0
  let c0_i32_116_r0 : BitVec 32 := 0#32
  let c0_i32_117_r0 : BitVec 32 := 0#32
  ![v152_r0.toNat, 0, 0]

def k0_chk1 (k0_t1 : Fin k0_t1_loop.trips) (arg7_r0 : BitVec 32) (arg8_r0 : BitVec 32) (arg9_r0 : BitVec 32) (arg10_r0 : BitVec 32) (arg11_r0 : BitVec 32) : Prop :=
  (∀ (k0_h1 : k0_cond1 k0_t1 arg11_r0 = 1#1), ∀ a, (k0_off3 arg7_r0) a + S1.size a ≤ S2.size a) ∧
  (∀ (k0_h1 : k0_cond1 k0_t1 arg11_r0 = 1#1), ∀ a, (k0_off4 arg7_r0) a + S1x512x4096.size a ≤ S2x512x4096.size a) ∧
  (∀ (k0_h1 : k0_cond1 k0_t1 arg11_r0 = 1#1), ∀ a, (k0_off5 arg11_r0) a + S512x4096.size a ≤ S4096x4096.size a) ∧
  (∀ (k0_h2 : k0_cond2 k0_t1 arg11_r0 = 1#1), ∀ a, (k0_off6 arg8_r0) a + S1.size a ≤ S2.size a) ∧
  (∀ (k0_h2 : k0_cond2 k0_t1 arg11_r0 = 1#1), ∀ a, (k0_off7 arg8_r0) a + S1x512x4096.size a ≤ S2x512x4096.size a) ∧
  (∀ (k0_h2 : k0_cond2 k0_t1 arg11_r0 = 1#1), ∀ a, (k0_off8 arg11_r0) a + S512x4096.size a ≤ S4096x4096.size a) ∧
  (∀ (k0_h5 : k0_cond5 k0_t1 arg11_r0 = 1#1), ∀ a, (k0_off11 arg9_r0) a + S1.size a ≤ S2.size a) ∧
  (∀ (k0_h5 : k0_cond5 k0_t1 arg11_r0 = 1#1), ∀ a, (k0_off12 arg11_r0) a + S512x64.size a ≤ S4096x64.size a) ∧
  (∀ (k0_h5 : k0_cond5 k0_t1 arg11_r0 = 1#1), ∀ a, (k0_off13 arg9_r0) a + S1x512x64.size a ≤ S2x512x64.size a) ∧
  (∀ (k0_h7 : k0_cond7 k0_t1 arg11_r0 = 1#1), ∀ a, (k0_off14 arg10_r0) a + S1.size a ≤ S2.size a) ∧
  (∀ (k0_h7 : k0_cond7 k0_t1 arg11_r0 = 1#1), ∀ a, (k0_off15 arg11_r0) a + S512x64.size a ≤ S4096x64.size a) ∧
  (∀ (k0_h7 : k0_cond7 k0_t1 arg11_r0 = 1#1), ∀ a, (k0_off16 arg10_r0) a + S1x512x64.size a ≤ S2x512x64.size a)
theorem k0_off3_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h1 : k0_cond1 k0_t1 arg11_r0 = 1#1), ∀ a, (k0_off3 arg7_r0) a + S1.size a ≤ S2.size a := fun k0_t1 arg7_r0 arg8_r0 arg9_r0 arg10_r0 arg11_r0 k0_hw1 k0_h1 => k0_hw1.1 k0_h1
theorem k0_off4_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h1 : k0_cond1 k0_t1 arg11_r0 = 1#1), ∀ a, (k0_off4 arg7_r0) a + S1x512x4096.size a ≤ S2x512x4096.size a := fun k0_t1 arg7_r0 arg8_r0 arg9_r0 arg10_r0 arg11_r0 k0_hw1 k0_h1 => k0_hw1.2.1 k0_h1
theorem k0_off5_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h1 : k0_cond1 k0_t1 arg11_r0 = 1#1), ∀ a, (k0_off5 arg11_r0) a + S512x4096.size a ≤ S4096x4096.size a := fun k0_t1 arg7_r0 arg8_r0 arg9_r0 arg10_r0 arg11_r0 k0_hw1 k0_h1 => k0_hw1.2.2.1 k0_h1
theorem k0_off6_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h2 : k0_cond2 k0_t1 arg11_r0 = 1#1), ∀ a, (k0_off6 arg8_r0) a + S1.size a ≤ S2.size a := fun k0_t1 arg7_r0 arg8_r0 arg9_r0 arg10_r0 arg11_r0 k0_hw1 k0_h2 => k0_hw1.2.2.2.1 k0_h2
theorem k0_off7_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h2 : k0_cond2 k0_t1 arg11_r0 = 1#1), ∀ a, (k0_off7 arg8_r0) a + S1x512x4096.size a ≤ S2x512x4096.size a := fun k0_t1 arg7_r0 arg8_r0 arg9_r0 arg10_r0 arg11_r0 k0_hw1 k0_h2 => k0_hw1.2.2.2.2.1 k0_h2
theorem k0_off8_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h2 : k0_cond2 k0_t1 arg11_r0 = 1#1), ∀ a, (k0_off8 arg11_r0) a + S512x4096.size a ≤ S4096x4096.size a := fun k0_t1 arg7_r0 arg8_r0 arg9_r0 arg10_r0 arg11_r0 k0_hw1 k0_h2 => k0_hw1.2.2.2.2.2.1 k0_h2
theorem k0_off11_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h5 : k0_cond5 k0_t1 arg11_r0 = 1#1), ∀ a, (k0_off11 arg9_r0) a + S1.size a ≤ S2.size a := fun k0_t1 arg7_r0 arg8_r0 arg9_r0 arg10_r0 arg11_r0 k0_hw1 k0_h5 => k0_hw1.2.2.2.2.2.2.1 k0_h5
theorem k0_off12_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h5 : k0_cond5 k0_t1 arg11_r0 = 1#1), ∀ a, (k0_off12 arg11_r0) a + S512x64.size a ≤ S4096x64.size a := fun k0_t1 arg7_r0 arg8_r0 arg9_r0 arg10_r0 arg11_r0 k0_hw1 k0_h5 => k0_hw1.2.2.2.2.2.2.2.1 k0_h5
theorem k0_off13_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h5 : k0_cond5 k0_t1 arg11_r0 = 1#1), ∀ a, (k0_off13 arg9_r0) a + S1x512x64.size a ≤ S2x512x64.size a := fun k0_t1 arg7_r0 arg8_r0 arg9_r0 arg10_r0 arg11_r0 k0_hw1 k0_h5 => k0_hw1.2.2.2.2.2.2.2.2.1 k0_h5
theorem k0_off14_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h7 : k0_cond7 k0_t1 arg11_r0 = 1#1), ∀ a, (k0_off14 arg10_r0) a + S1.size a ≤ S2.size a := fun k0_t1 arg7_r0 arg8_r0 arg9_r0 arg10_r0 arg11_r0 k0_hw1 k0_h7 => k0_hw1.2.2.2.2.2.2.2.2.2.1 k0_h7
theorem k0_off15_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h7 : k0_cond7 k0_t1 arg11_r0 = 1#1), ∀ a, (k0_off15 arg11_r0) a + S512x64.size a ≤ S4096x64.size a := fun k0_t1 arg7_r0 arg8_r0 arg9_r0 arg10_r0 arg11_r0 k0_hw1 k0_h7 => k0_hw1.2.2.2.2.2.2.2.2.2.2.1 k0_h7
theorem k0_off16_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h7 : k0_cond7 k0_t1 arg11_r0 = 1#1), ∀ a, (k0_off16 arg10_r0) a + S1x512x64.size a ≤ S2x512x64.size a := fun k0_t1 arg7_r0 arg8_r0 arg9_r0 arg10_r0 arg11_r0 k0_hw1 k0_h7 => k0_hw1.2.2.2.2.2.2.2.2.2.2.2 k0_h7

def k0_off17 (v30_3_r0 : BitVec 32) : Fin 1 → Nat :=
  let c2_i32_52_r0 : BitVec 32 := 2#32
  let v51_r0 : BitVec 32 := Scalar.remui v30_3_r0 c2_i32_52_r0
  ![v51_r0.toNat]

def k0_off18 (v30_4_r0 : BitVec 32) : Fin 2 → Nat :=
  let c512_i32_r0 : BitVec 32 := 512#32
  let true_33_r0 : BitVec 1 := 1#1
  let c1_i32_32_r0 : BitVec 32 := 1#32
  let v31_r0 : BitVec 32 := Scalar.subi v30_4_r0 c1_i32_32_r0
  let v32_r0 : BitVec 32 := Scalar.select true_33_r0 v31_r0 v30_4_r0
  let c_m1_i32_34_r0 : BitVec 32 := 4294967295#32
  let v33_r0 : BitVec 1 := Scalar.cmpi .eq v32_r0 c_m1_i32_34_r0
  let c7_i32_35_r0 : BitVec 32 := 7#32
  let v34_r0 : BitVec 32 := Scalar.select v33_r0 c7_i32_35_r0 v32_r0
  let c0_i32_36_r0 : BitVec 32 := 0#32
  let v35_r0 : BitVec 32 := Scalar.addi v34_r0 c0_i32_36_r0
  let v52_r0 : BitVec 32 := Scalar.muli c512_i32_r0 v35_r0
  let c0_i32_53_r0 : BitVec 32 := 0#32
  ![v52_r0.toNat, 0]

def k0_chk5 (v30_4_r0 : BitVec 32) : Prop :=
  (∀ a, (k0_off18 v30_4_r0) a + S512x64.size a ≤ S4096x64.size a)
theorem k0_off18_inb : ∀ (v30_4_r0 : BitVec 32) (k0_hw5 : k0_chk5 v30_4_r0), ∀ a, (k0_off18 v30_4_r0) a + S512x64.size a ≤ S4096x64.size a := fun v30_4_r0 k0_hw5 => k0_hw5

def k0_off19 (v30_3_r0 : BitVec 32) : Fin 3 → Nat :=
  let c2_i32_52_r0 : BitVec 32 := 2#32
  let v51_r0 : BitVec 32 := Scalar.remui v30_3_r0 c2_i32_52_r0
  let c0_i32_54_r0 : BitVec 32 := 0#32
  let c0_i32_55_r0 : BitVec 32 := 0#32
  ![v51_r0.toNat, 0, 0]

def k0_chk4 (v30_3_r0 : BitVec 32) : Prop :=
  (∀ a, (k0_off17 v30_3_r0) a + S1.size a ≤ S2.size a) ∧
  (∀ a, (k0_off19 v30_3_r0) a + S1x512x64.size a ≤ S2x512x64.size a)
theorem k0_off17_inb : ∀ (v30_3_r0 : BitVec 32) (k0_hw4 : k0_chk4 v30_3_r0), ∀ a, (k0_off17 v30_3_r0) a + S1.size a ≤ S2.size a := fun v30_3_r0 k0_hw4 => k0_hw4.1
theorem k0_off19_inb : ∀ (v30_3_r0 : BitVec 32) (k0_hw4 : k0_chk4 v30_3_r0), ∀ a, (k0_off19 v30_3_r0) a + S1x512x64.size a ≤ S2x512x64.size a := fun v30_3_r0 k0_hw4 => k0_hw4.2

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x64 : Shape := ⟨2, ![4096, 64]⟩
abbrev S4096x4096 : Shape := ⟨2, ![4096, 4096]⟩
abbrev S64x64 : Shape := ⟨2, ![64, 64]⟩
abbrev S64 : Shape := ⟨1, ![64]⟩
abbrev S1x64 : Shape := ⟨2, ![1, 64]⟩

abbrev nBuf : Space → Nat
  | .hbm => 9
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S64x64, .f32⟩
  | .hbm, ⟨3, _⟩ => ⟨S64, .f32⟩
  | .hbm, ⟨4, _⟩ => ⟨S4096x64, .f32⟩
  | .hbm, ⟨5, _⟩ => ⟨S4096x64, .f32⟩
  | .hbm, ⟨6, _⟩ => ⟨S1x64, .f32⟩
  | .hbm, ⟨7, _⟩ => ⟨S4096x64, .f32⟩
  | .hbm, ⟨8, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Words.lean ====
/-
  The words the kernel's counted loop carries from trip to trip, and every slice offset, branch and
  side condition computed from them, in closed form.

  The inner pipeline has eight blocks. Before trip `k` its loop carries five words: the number of input
  blocks issued so far, the numbers of input slots waited and output slots filled, the number of output
  copies waited, and the block number. Each is a function of `k` alone.
-/
module

public import proofs.«01_k».proof.Proof.Gen.KernelIdeal.Skeleton
public import proofs.«01_k».proof.Proof.Gen.KernelIdeal.Loops
public import Idealize.ShloMosaic.Lib.Ring
public import Idealize.ShloMosaic.Lib.Tactic

@[expose] public section

noncomputable section

namespace Cert.Proof.Gcn

open Cert.KernelIdeal Cert.KernelIdeal.Gen
open Idealize.ShloMosaic

/-! ## The carried words -/

/-- Input blocks issued before trip `k`: one ahead of the trip, and never more than eight. -/
def issued (k : ℕ) : BitVec 32 := BitVec.ofNat 32 (min (k + 1) 8)
/-- Input blocks consumed, and output blocks produced, before trip `k`. -/
def done (k : ℕ) : BitVec 32 := BitVec.ofNat 32 k
/-- Output copies waited before trip `k`: one behind the trip. -/
def drained (k : ℕ) : BitVec 32 := BitVec.ofNat 32 (k - 1)
/-- The block trip `k` works on; back at zero after the last trip. -/
def block (k : ℕ) : BitVec 32 := BitVec.ofNat 32 (k % 8)

/-- The five words before trip `k`, in the order the loop carries them. -/
def carried (k : ℕ) : BitVec 32 × BitVec 32 × BitVec 32 × BitVec 32 × BitVec 32 :=
  (issued k, done k, done k, drained k, block k)

/-- The loop runs eight trips. -/
theorem trips_eq : k0_t1_loop.trips = 8 := by decide

/-! ## Offsets of the slices the kernel names: input block, output block, slot, semaphore -/

/-- Where block `b` of the adjacency matrix, and of the result, starts: at row `512 b`. -/
abbrev rowOff (b : Fin 8) : Fin 2 → Nat := ![512 * b.val, 0]
/-- Where slot `s` of a two-slot buffer starts. -/
abbrev slotOff (s : Fin 2) : Fin 3 → Nat := ![s.val, 0, 0]
/-- Where slot `s`'s semaphore sits. -/
abbrev semOff (s : Fin 2) : Fin 1 → Nat := ![s.val]

section Trip
variable (k : Fin k0_t1_loop.trips)

theorem off3_eq : ∀ k : Fin k0_t1_loop.trips, k.val + 1 < 8 → k0_off3 (issued k.val) = semOff (Ring.sl 2 (k.val + 1)) := by decide
theorem off4_eq : ∀ k : Fin k0_t1_loop.trips, k.val + 1 < 8 → k0_off4 (issued k.val) = slotOff (Ring.sl 2 (k.val + 1)) := by decide
theorem off5_eq : ∀ k : Fin k0_t1_loop.trips, k.val + 1 < 8 → k0_off5 (block k.val) = rowOff (Ring.bk 8 (k.val + 1)) := by decide
theorem off6_eq : ∀ k : Fin k0_t1_loop.trips, k0_off6 (done k.val) = semOff (Ring.sl 2 k.val) := by decide
theorem off7_eq : ∀ k : Fin k0_t1_loop.trips, k0_off7 (done k.val) = slotOff (Ring.sl 2 k.val) := by decide
theorem off8_eq : ∀ k : Fin k0_t1_loop.trips, k0_off8 (block k.val) = rowOff (Ring.bk 8 k.val) := by decide
theorem off9_eq : ∀ k : Fin k0_t1_loop.trips, k0_off9 (done k.val) = slotOff (Ring.sl 2 k.val) := by decide
theorem off10_eq : ∀ k : Fin k0_t1_loop.trips, k0_off10 (done k.val) = slotOff (Ring.sl 2 k.val) := by decide
theorem off11_eq : ∀ k : Fin k0_t1_loop.trips, k0_off11 (done k.val) = semOff (Ring.sl 2 k.val) := by decide
theorem off12_eq : ∀ k : Fin k0_t1_loop.trips, k0_off12 (block k.val) = rowOff (Ring.bk 8 k.val) := by decide
theorem off13_eq : ∀ k : Fin k0_t1_loop.trips, k0_off13 (done k.val) = slotOff (Ring.sl 2 k.val) := by decide
theorem off14_eq : ∀ k : Fin k0_t1_loop.trips, 1 ≤ k.val → k0_off14 (drained k.val) = semOff (Ring.sl 2 (k.val + 1)) := by decide
theorem off15_eq : ∀ k : Fin k0_t1_loop.trips, 1 ≤ k.val → k0_off15 (block k.val) = rowOff (Ring.bk 8 (k.val - 1)) := by decide
theorem off16_eq : ∀ k : Fin k0_t1_loop.trips, 1 ≤ k.val → k0_off16 (drained k.val) = slotOff (Ring.sl 2 (k.val + 1)) := by decide

/-! ## The trip's branches -/

/-- A trip before the last issues the next input block; -/
theorem cond1_pos : ∀ k : Fin k0_t1_loop.trips, k.val + 1 < 8 → k0_cond1 k (block k.val) = 1#1 := by decide
/-- the last issues nothing. -/
theorem cond1_neg : ∀ k : Fin k0_t1_loop.trips, ¬ k.val + 1 < 8 → ¬ k0_cond1 k (block k.val) = 1#1 := by decide
/-- Every trip waits its input block, -/
theorem cond2_pos : ∀ k : Fin k0_t1_loop.trips, k0_cond2 k (block k.val) = 1#1 := by decide
/-- and copies its output block out. -/
theorem cond5_pos : ∀ k : Fin k0_t1_loop.trips, k0_cond5 k (block k.val) = 1#1 := by decide
/-- A trip after the first waits the previous output copy; -/
theorem cond7_pos : ∀ k : Fin k0_t1_loop.trips, 1 ≤ k.val → k0_cond7 k (block k.val) = 1#1 := by decide
/-- the first waits none. -/
theorem cond7_neg : ∀ k : Fin k0_t1_loop.trips, ¬ 1 ≤ k.val → ¬ k0_cond7 k (block k.val) = 1#1 := by decide

/-! ## The trip's side conditions: every slice it takes is inside its buffer -/

theorem chk1 : ∀ k : Fin k0_t1_loop.trips, k0_chk1 k (issued k.val) (done k.val) (done k.val) (drained k.val) (block k.val) := by
  intro k
  unfold k0_chk1
  revert k
  decide
theorem chk2 : ∀ k : Fin k0_t1_loop.trips, k0_chk2 (done k.val) := by decide
theorem chk3 : ∀ k : Fin k0_t1_loop.trips, k0_chk3 (done k.val) := by decide

end Trip

/-! ## After the loop: the last output copy is waited -/

theorem off17_eq : k0_off17 (drained 8) = semOff 1 := by decide
theorem off18_eq : k0_off18 (block 8) = rowOff 7 := by decide
theorem off19_eq : k0_off19 (drained 8) = slotOff 1 := by decide
theorem chk4 : k0_chk4 (drained 8) := by decide
theorem chk5 : k0_chk5 (block 8) := by decide

end Cert.Proof.Gcn

end
-- ==== Proof.Pieces.lean ====
/-
  The kernel's buffers cut into the pieces its inner pipeline moves: eight row blocks of the adjacency
  matrix and of the result, two slots of the input buffer and of the output buffer, one semaphore per
  slot. Each piece gets one name, and the slices the kernel takes at a trip are those names.
-/
module

public import proofs.«01_k».proof.Proof.Words
public import proofs.«01_k».proof.Proof.Gen.KernelIdeal.Points
public import proofs.«01_k».proof.Proof.Gen.KernelIdeal.Launch
public import Idealize.ShloMosaic.Lib.Pipeline.FrameValue
public import Idealize.ShloMosaic.Lib.Ring.Trips
public import Idealize.ShloMosaic.Lib.Ring.WriteBehind

@[expose] public section

noncomputable section

namespace Cert.Proof.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra of the run: the outer pipeline's, beside the counters the inner pipeline's copies ride on. -/
abbrev UU (nD : Nat) (τ : Topo) : Type := UR sig nD τ × Counters
local notation "𝕄" => MT nD τ sig Unit (Elt F) ℕ (UU nD τ) ℕ
/-- No loop of the program needs a variant beside its trip count. -/
abbrev 𝒱₀ : Variants := Variants.none

/-! ## The pieces' names -/

/-- The adjacency matrix, the result, the two double buffers. -/
abbrev adjM : Memref sig .tc .hbm S4096x4096 .f32 := Memref.whole main_arg1
abbrev outM : Memref sig .tc .hbm S4096x64 .f32 := Memref.whole main_v1
abbrev inM : Memref sig .tc .vmem S2x512x4096 .f32 := Memref.whole cc0_scoped0
abbrev resM : Memref sig .tc .vmem S2x512x64 .f32 := Memref.whole cc0_scoped2

theorem adjRow_inb (b : Fin 8) : ∀ a, rowOff b a + S512x4096.size a ≤ S4096x4096.size a := by revert b; decide
theorem outRow_inb (b : Fin 8) : ∀ a, rowOff b a + S512x64.size a ≤ S4096x64.size a := by revert b; decide
theorem inSlot_inb (s : Fin 2) : ∀ a, slotOff s a + S1x512x4096.size a ≤ S2x512x4096.size a := by revert s; decide
theorem resSlot_inb (s : Fin 2) : ∀ a, slotOff s a + S1x512x64.size a ≤ S2x512x64.size a := by revert s; decide
theorem sem_inb (s : Fin 2) : ∀ a, semOff s a + S1.size a ≤ S2.size a := by revert s; decide

/-- Rows `512 b … 512 b + 511` of the adjacency matrix. -/
def adjBlk (b : Fin 8) : Memref sig .tc .hbm S512x4096 .f32 :=
  adjM.slice (Rect.unit (s := S4096x4096) (rowOff b) S512x4096.size (adjRow_inb b)) (fun _ => rfl)
/-- Rows `512 b … 512 b + 511` of the result. -/
def outBlk (b : Fin 8) : Memref sig .tc .hbm S512x64 .f32 :=
  outM.slice (Rect.unit (s := S4096x64) (rowOff b) S512x64.size (outRow_inb b)) (fun _ => rfl)
/-- Slot `s` of the input buffer, with its leading axis dropped. -/
def inSlot (s : Fin 2) : Memref sig .tc .vmem S512x4096 .f32 :=
  (inM.slice (Rect.unit (s := S2x512x4096) (slotOff s) S1x512x4096.size (inSlot_inb s)) (fun _ => rfl)).squeeze S512x4096 squeezes_S1x512x4096_S512x4096
/-- Slot `s` of the output buffer, with its leading axis dropped. -/
def resSlot (s : Fin 2) : Memref sig .tc .vmem S512x64 .f32 :=
  (resM.slice (Rect.unit (s := S2x512x64) (slotOff s) S1x512x64.size (resSlot_inb s)) (fun _ => rfl)).squeeze S512x64 squeezes_S1x512x64_S512x64
/-- The semaphore of input slot `s`. -/
def inSem (s : Fin 2) : DmaSems sig S_ := (cc0_scoped1.slice (Rect.unit (s := S2) (semOff s) S1.size (sem_inb s))).squeeze S_ squeezes_S1_S_
/-- The semaphore of output slot `s`. -/
def resSem (s : Fin 2) : DmaSems sig S_ := (cc0_scoped3.slice (Rect.unit (s := S2) (semOff s) S1.size (sem_inb s))).squeeze S_ squeezes_S1_S_

instance (s : Fin 2) : ClosedOff (slotOff s) := ⟨slotOff s, rfl⟩
instance (b : Fin 8) : ClosedOff (rowOff b) := ⟨rowOff b, rfl⟩
instance (k : Fin k0_t1_loop.trips) : ClosedOff (k0_off9 (done k.val)) := ⟨slotOff (Ring.sl 2 k.val), off9_eq k⟩
instance (k : Fin k0_t1_loop.trips) : ClosedOff (k0_off10 (done k.val)) := ⟨slotOff (Ring.sl 2 k.val), off10_eq k⟩

/-! ## The slices the kernel takes are those pieces -/

theorem adjBlk_of {off : Fin 2 → Nat} {b : Fin 8} (e : off = rowOff b) (hh hs) :
    adjM.slice (Rect.unit (s := S4096x4096) off S512x4096.size hh) hs = adjBlk b := Memref.slice_unit_congr _ e _ _ _ (fun _ => rfl)
theorem outBlk_of {off : Fin 2 → Nat} {b : Fin 8} (e : off = rowOff b) (hh hs) :
    outM.slice (Rect.unit (s := S4096x64) off S512x64.size hh) hs = outBlk b := Memref.slice_unit_congr _ e _ _ _ (fun _ => rfl)
theorem inSlot_of {off : Fin 3 → Nat} {s : Fin 2} (e : off = slotOff s) (hh hs) :
    (inM.slice (Rect.unit (s := S2x512x4096) off S1x512x4096.size hh) hs).squeeze S512x4096 squeezes_S1x512x4096_S512x4096 = inSlot s :=
  congrArg (fun M : Memref sig .tc .vmem S1x512x4096 .f32 => M.squeeze S512x4096 squeezes_S1x512x4096_S512x4096) (Memref.slice_unit_congr _ e _ _ _ _)
theorem resSlot_of {off : Fin 3 → Nat} {s : Fin 2} (e : off = slotOff s) (hh hs) :
    (resM.slice (Rect.unit (s := S2x512x64) off S1x512x64.size hh) hs).squeeze S512x64 squeezes_S1x512x64_S512x64 = resSlot s :=
  congrArg (fun M : Memref sig .tc .vmem S1x512x64 .f32 => M.squeeze S512x64 squeezes_S1x512x64_S512x64) (Memref.slice_unit_congr _ e _ _ _ _)
theorem inSem_of {off : Fin 1 → Nat} {s : Fin 2} (e : off = semOff s) (hh) :
    (cc0_scoped1.slice (Rect.unit (s := S2) off S1.size hh)).squeeze S_ squeezes_S1_S_ = inSem s :=
  congrArg (fun A : DmaSems sig S1 => A.squeeze S_ squeezes_S1_S_) (SemArray.slice_unit_congr _ e _ _)
theorem resSem_of {off : Fin 1 → Nat} {s : Fin 2} (e : off = semOff s) (hh) :
    (cc0_scoped3.slice (Rect.unit (s := S2) off S1.size hh)).squeeze S_ squeezes_S1_S_ = resSem s :=
  congrArg (fun A : DmaSems sig S1 => A.squeeze S_ squeezes_S1_S_) (SemArray.slice_unit_congr _ e _ _)

/-- Before the loop: input block 0 into slot 0. -/
@[sl_canon] theorem canon_first_sem (hh) : (cc0_scoped1.slice (Rect.unit (s := S2) k0_off1 S1.size hh)).squeeze S_ squeezes_S1_S_ = inSem 0 := inSem_of (by decide) _
@[sl_canon] theorem canon_first_slot (hh hs) : (inM.slice (Rect.unit (s := S2x512x4096) k0_off2 S1x512x4096.size hh) hs).squeeze S512x4096 squeezes_S1x512x4096_S512x4096 = inSlot 0 := inSlot_of (by decide) _ _
@[sl_canon] theorem canon_first_blk (hh hs) : adjM.slice (Rect.unit (s := S4096x4096) ![0, 0] S512x4096.size hh) hs = adjBlk 0 := adjBlk_of (by decide) _ _

section Trip
variable (k : Fin k0_t1_loop.trips)

/-- Trip `k` issues input block `k + 1` into the other slot, -/
@[sl_canon] theorem canon_issue_sem (hk : k.val + 1 < 8) (hh) : (cc0_scoped1.slice (Rect.unit (s := S2) (k0_off3 (issued k.val)) S1.size hh)).squeeze S_ squeezes_S1_S_ = inSem (Ring.sl 2 (k.val + 1)) := inSem_of (off3_eq k hk) _
@[sl_canon] theorem canon_issue_slot (hk : k.val + 1 < 8) (hh hs) : (inM.slice (Rect.unit (s := S2x512x4096) (k0_off4 (issued k.val)) S1x512x4096.size hh) hs).squeeze S512x4096 squeezes_S1x512x4096_S512x4096 = inSlot (Ring.sl 2 (k.val + 1)) := inSlot_of (off4_eq k hk) _ _
@[sl_canon] theorem canon_issue_blk (hk : k.val + 1 < 8) (hh hs) : adjM.slice (Rect.unit (s := S4096x4096) (k0_off5 (block k.val)) S512x4096.size hh) hs = adjBlk (Ring.bk 8 (k.val + 1)) := adjBlk_of (off5_eq k hk) _ _
/-- waits input block `k` in its own slot, -/
@[sl_canon] theorem canon_wait_sem (hh) : (cc0_scoped1.slice (Rect.unit (s := S2) (k0_off6 (done k.val)) S1.size hh)).squeeze S_ squeezes_S1_S_ = inSem (Ring.sl 2 k.val) := inSem_of (off6_eq k) _
@[sl_canon] theorem canon_wait_slot (hh hs) : (inM.slice (Rect.unit (s := S2x512x4096) (k0_off7 (done k.val)) S1x512x4096.size hh) hs).squeeze S512x4096 squeezes_S1x512x4096_S512x4096 = inSlot (Ring.sl 2 k.val) := inSlot_of (off7_eq k) _ _
@[sl_canon] theorem canon_wait_blk (hh hs) : adjM.slice (Rect.unit (s := S4096x4096) (k0_off8 (block k.val)) S512x4096.size hh) hs = adjBlk (Ring.bk 8 k.val) := adjBlk_of (off8_eq k) _ _
/-- copies output slot `k % 2` out to result block `k`, -/
@[sl_canon] theorem canon_out_sem (hh) : (cc0_scoped3.slice (Rect.unit (s := S2) (k0_off11 (done k.val)) S1.size hh)).squeeze S_ squeezes_S1_S_ = resSem (Ring.sl 2 k.val) := resSem_of (off11_eq k) _
@[sl_canon] theorem canon_out_blk (hh hs) : outM.slice (Rect.unit (s := S4096x64) (k0_off12 (block k.val)) S512x64.size hh) hs = outBlk (Ring.bk 8 k.val) := outBlk_of (off12_eq k) _ _
@[sl_canon] theorem canon_out_slot (hh hs) : (resM.slice (Rect.unit (s := S2x512x64) (k0_off13 (done k.val)) S1x512x64.size hh) hs).squeeze S512x64 squeezes_S1x512x64_S512x64 = resSlot (Ring.sl 2 k.val) := resSlot_of (off13_eq k) _ _
/-- and waits the previous trip's copy of the other output slot. -/
@[sl_canon] theorem canon_drain_sem (hk : 1 ≤ k.val) (hh) : (cc0_scoped3.slice (Rect.unit (s := S2) (k0_off14 (drained k.val)) S1.size hh)).squeeze S_ squeezes_S1_S_ = resSem (Ring.sl 2 (k.val + 1)) := resSem_of (off14_eq k hk) _
@[sl_canon] theorem canon_drain_blk (hk : 1 ≤ k.val) (hh hs) : outM.slice (Rect.unit (s := S4096x64) (k0_off15 (block k.val)) S512x64.size hh) hs = outBlk (Ring.bk 8 (k.val - 1)) := outBlk_of (off15_eq k hk) _ _
@[sl_canon] theorem canon_drain_slot (hk : 1 ≤ k.val) (hh hs) : (resM.slice (Rect.unit (s := S2x512x64) (k0_off16 (drained k.val)) S1x512x64.size hh) hs).squeeze S512x64 squeezes_S1x512x64_S512x64 = resSlot (Ring.sl 2 (k.val + 1)) := resSlot_of (off16_eq k hk) _ _

end Trip

/-- After the loop: the last copy, of output slot 1 to result block 7. -/
@[sl_canon] theorem canon_last_sem (hh) : (cc0_scoped3.slice (Rect.unit (s := S2) (k0_off17 (drained 8)) S1.size hh)).squeeze S_ squeezes_S1_S_ = resSem 1 := resSem_of off17_eq _
@[sl_canon] theorem canon_last_blk (hh hs) : outM.slice (Rect.unit (s := S4096x64) (k0_off18 (block 8)) S512x64.size hh) hs = outBlk 7 := outBlk_of off18_eq _ _
@[sl_canon] theorem canon_last_slot (hh hs) : (resM.slice (Rect.unit (s := S2x512x64) (k0_off19 (drained 8)) S1x512x64.size hh) hs).squeeze S512x64 squeezes_S1x512x64_S512x64 = resSlot 1 := resSlot_of off19_eq _ _

/-! ## Holding a piece -/

section Hold
variable (c : Dev nD)

/-- Contents of the adjacency matrix; of the result; of an input slot; of an output slot. -/
abbrev AdjBuf := Buf (Elt F) (adjM.view.loc (c : Thread nD τ))
abbrev OutBuf := Buf (Elt F) (outM.view.loc (c : Thread nD τ))
abbrev InBuf := Buf (Elt F) (inM.view.loc (c : Thread nD τ))
abbrev ResBuf := Buf (Elt F) (resM.view.loc (c : Thread nD τ))

/-- An idle semaphore. -/
abbrev inCell (s : Fin 2) : sProp 𝕄 := semVal ((c : Thread nD τ), SemLoc.dma (inSem s).sem) 0
abbrev resCell (s : Fin 2) : sProp 𝕄 := semVal ((c : Thread nD τ), SemLoc.dma (resSem s).sem) 0
/-- Input slot `s`, output slot `s`, adjacency block `b`, result block `b`, each held at contents. -/
abbrev inP (s : Fin 2) (f : Buf (Elt F) ((inSlot s).view.loc (c : Thread nD τ))) : sProp 𝕄 := (inSlot s).view.loc (c : Thread nD τ) ↦[(inSlot s).view.set]{fullShare} f
abbrev resP (s : Fin 2) (f : Buf (Elt F) ((resSlot s).view.loc (c : Thread nD τ))) : sProp 𝕄 := (resSlot s).view.loc (c : Thread nD τ) ↦[(resSlot s).view.set]{fullShare} f
abbrev adjP (XA : AdjBuf (F := F) c) (b : Fin 8) : sProp 𝕄 := (adjBlk b).view.loc (c : Thread nD τ) ↦[(adjBlk b).view.set]{fullShare} XA
abbrev outP (b : Fin 8) (f : Buf (Elt F) ((outBlk b).view.loc (c : Thread nD τ))) : sProp 𝕄 := (outBlk b).view.loc (c : Thread nD τ) ↦[(outBlk b).view.set]{fullShare} f

/-- Input slot `s` filled with adjacency block `b`. -/
abbrev landed (XA : AdjBuf (F := F) c) (s : Fin 2) (b : Fin 8) (f : Buf (Elt F) ((inSlot s).view.loc (c : Thread nD τ))) : Buf (Elt F) ((inSlot s).view.loc (c : Thread nD τ)) :=
  (inSlot s).view.writes (Elt F) f [⟨Rect.whole S512x4096, ReadAs.same.apply ((adjBlk b).view.read (Elt F) XA)⟩]
/-- Adjacency block `b` on its way into input slot `s`. -/
abbrev inFlight (XA : AdjBuf (F := F) c) (s : Fin 2) (b : Fin 8) (f : Buf (Elt F) ((inSlot s).view.loc (c : Thread nD τ))) : sProp 𝕄 :=
  Transfers.Flight countersEmb (c : Thread nD τ) (SemLoc.dma (inSem s).sem) () 262144 iprop(inP c s (landed c XA s b f) ∗ adjP c XA b)
/-- Result block `b` filled from output slot `s`. -/
abbrev stored (s : Fin 2) (b : Fin 8) (g : Buf (Elt F) ((resSlot s).view.loc (c : Thread nD τ))) (f : Buf (Elt F) ((outBlk b).view.loc (c : Thread nD τ))) : Buf (Elt F) ((outBlk b).view.loc (c : Thread nD τ)) :=
  (outBlk b).view.writes (Elt F) f [⟨Rect.whole S512x64, ReadAs.same.apply ((resSlot s).view.read (Elt F) g)⟩]
/-- Output slot `s` on its way to result block `b`. -/
abbrev outFlight (s : Fin 2) (b : Fin 8) (g : Buf (Elt F) ((resSlot s).view.loc (c : Thread nD τ))) (f : Buf (Elt F) ((outBlk b).view.loc (c : Thread nD τ))) : sProp 𝕄 :=
  Transfers.Flight countersEmb (c : Thread nD τ) (SemLoc.dma (resSem s).sem) () 8192 iprop(outP c b (stored c s b g f) ∗ resP c s g)

end Hold

end Cert.Proof.Gcn

end
-- ==== Proof.Trip.lean ====
/-
  One trip of the inner pipeline, at a trip number that stays a variable: what the kernel holds before it, what it holds
  after it, and the block of the result it works out in between.
-/
module

public import proofs.«01_k».proof.Proof.Pieces
public import Idealize.ShloMosaic.Lib.Pipeline.Value

@[expose] public section

noncomputable section

namespace Cert.Proof.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## What one block is -/

/-- One block of the result: 512 rows of the adjacency matrix, cast down, times the support matrix, plus the bias. -/
def blockOf (A : Vec F S512x4096 .f32) (S : Vec F S4096x64 .bf16) (B : Vec F S1x64 .f32) : FVec F S512x64 .f32 :=
  addf (matmul dot_S512x4096_S4096x64_S512x64_1_0_0_1_n_n none (truncf .bf16 A bitsLt_bf16_f32) S (constant S512x64 .f32 0x00000000#32))
    (broadcastTo S512x64 B broadcasts_S1x64_S512x64)

/-- What the body stores in an output slot is that block, up to the leading axis of size one. -/
theorem pay1_eq (A : Vec F S1x512x4096 .f32) (S : Vec F S4096x64 .bf16) (B : Vec F S1x64 .f32) :
    shapeCast S512x64 (k0_pay1 A S B) shapeCasts_S1x512x64_S512x64 = blockOf (shapeCast S512x4096 A shapeCasts_S1x512x4096_S512x4096) S B := by
  unfold k0_pay1 blockOf
  dsimp only
  rw [shapeCast_shapeCast, shapeCast_self]

/-- A load through the whole buffer at a slot's rectangle, of a slot that was written whole, gives what was written. -/
theorem slot_load {sg : RefSig} {κ : Kind} {cs : Space} {s s' : Shape} {e : EltTy} {Val : EltTy → Type} (M : Memref sg κ cs s e)
    (r : Rect s) (hr : ∀ a, r.stride a = 1) (hq : r.shape.Squeezes s') (hc : r.shape.ShapeCasts s') (f : M.view.ty.Contents Val) (x : s'.Idx → Val e) :
    shapeCast s' (M.view.readAt Val r.toLoadRect (((M.slice r hr).squeeze s' hq).view.writes Val f [⟨Rect.whole s', x⟩])) hc = x :=
  (Memref.read_squeeze_slice M r hr hq hc _).symm.trans (View.read_writes_whole ((M.slice r hr).squeeze s' hq).view f x)
/-- A slot read after a store through the whole buffer at the slot's rectangle gives what was stored. -/
theorem slot_store {sg : RefSig} {κ : Kind} {cs : Space} {s s' : Shape} {e : EltTy} {Val : EltTy → Type} (M : Memref sg κ cs s e)
    (r : Rect s) (hr : ∀ a, r.stride a = 1) (hq : r.shape.Squeezes s') (hc : r.shape.ShapeCasts s') (g : M.view.ty.Contents Val) (v : r.shape.Idx → Val e) :
    ((M.slice r hr).squeeze s' hq).view.read Val ((M.access r).write Val g v Finset.univ) = shapeCast s' v hc :=
  (Memref.read_squeeze_slice M r hr hq hc _).trans (congrArg (fun w => shapeCast s' w hc) (View.read_write_univ (v := M.access r) g v))

section Trip

variable (c : Dev nD) (XA : AdjBuf (F := F) c) (X0 : OutBuf (F := F) c)
  (arg0 : Memref sig .tc .vmem S4096x64 .f32) (harg0 : arg0.IsWhole)
  (arg1 : Memref sig .tc .vmem S64x64 .f32) (harg1 : arg1.IsWhole)
  (arg2 : Memref sig .tc .vmem S1x64 .f32) (harg2 : arg2.IsWhole)
  (arg5 : Memref sig .tc .vmem S4096x64 .bf16) (harg5 : arg5.IsWhole)
  (g2 : Buf (Elt F) (arg2.view.loc (c : Thread nD τ))) (g5 : Buf (Elt F) (arg5.view.loc (c : Thread nD τ)))

/-- The support matrix and the bias row as the body loads them. -/
abbrev supOf : Vec F S4096x64 .bf16 := arg5.view.readAt (Elt F) (Rect.unit (s := S4096x64) ![0, 0] S4096x64.size inb_S4096x64_S4096x64_0_0).toLoadRect g5
abbrev biasOf : Vec F S1x64 .f32 := arg2.view.readAt (Elt F) (Rect.unit (s := S1x64) ![0, 0] S1x64.size inb_S1x64_S1x64_0_0).toLoadRect g2

/-- Block `b` of the result. -/
def blk (b : Fin 8) : FVec F S512x64 .f32 := blockOf ((adjBlk b).view.read (Elt F) XA) (supOf c arg5 g5) (biasOf c arg2 g2)

/-- An output slot after the body's store, its input slot filled with block `b`, reads as block `b` of the result. -/
theorem slot_value {off off' : Fin 3 → Nat} {s : Fin 2} (e : off = slotOff s) (e' : off' = slotOff s) (hin hin') (b : Fin 8)
    (f : Buf (Elt F) ((inSlot s).view.loc (c : Thread nD τ))) (g : ResBuf (F := F) c) :
    (resSlot s).view.read (Elt F) ((resM.access (Rect.unit (s := S2x512x64) off' S1x512x64.size hin')).write (Elt F) g
        (k0_pay1 (inM.view.readAt (Elt F) (Rect.unit (s := S2x512x4096) off S1x512x4096.size hin).toLoadRect (landed c XA s b f)) (supOf c arg5 g5) (biasOf c arg2 g2)) Finset.univ)
      = blk c XA arg2 arg5 g2 g5 b := by
  subst e e'
  unfold blk
  rw [← slot_load inM (Rect.unit (s := S2x512x4096) (slotOff s) S1x512x4096.size (inSlot_inb s)) (fun _ => rfl) squeezes_S1x512x4096_S512x4096
    shapeCasts_S1x512x4096_S512x4096 f ((adjBlk b).view.read (Elt F) XA), ← pay1_eq]
  exact slot_store resM (Rect.unit (s := S2x512x64) (slotOff s) S1x512x64.size (resSlot_inb s)) (fun _ => rfl) squeezes_S1x512x64_S512x64
    shapeCasts_S1x512x64_S512x64 g _

/-! ## What is held before and after a trip -/

/-- An input slot free, an input slot being filled with block `b`. -/
abbrev inFree (s : Fin 2) : sProp 𝕄 := iprop(inCell (F := F) c s ∗ ∃ f, inP c s f)
abbrev inBusy (s : Fin 2) (b : Fin 8) : sProp 𝕄 := iprop(∃ f, inFlight c XA s b f)
/-- An output slot free, an output slot that holds block `b` of the result and is being copied out. -/
abbrev resFree (s : Fin 2) : sProp 𝕄 := iprop(resCell (F := F) c s ∗ ∃ f, resP c s f)
abbrev resBusy (s : Fin 2) (b : Fin 8) : sProp 𝕄 :=
  iprop(∃ g f, ⌜(resSlot s).view.read (Elt F) g = blk c XA arg2 arg5 g2 g5 b⌝ ∗ outFlight c s b g f)
/-- Result block `b` done. -/
abbrev outDone (b : Fin 8) : sProp 𝕄 := outP c b ((outBlk b).view.rep (blk c XA arg2 arg5 g2 g5 b))
/-- What every trip only reads, and the core's record of its waits. -/
abbrev fixed : sProp 𝕄 :=
  iprop((arg2.view.loc (c : Thread nD τ) ↦[arg2.view.set]{fullShare} g2) ∗ (arg5.view.loc (c : Thread nD τ) ↦[arg5.view.set]{fullShare} g5)
    ∗ ∃ W, owes (c : Thread nD τ) 0 W)

/-- A result block that an output slot at `g` was copied into is done, when the slot read as that block. -/
theorem outDone_of {s : Fin 2} {b : Fin 8} {g : Buf (Elt F) ((resSlot s).view.loc (c : Thread nD τ))} (f : Buf (Elt F) ((outBlk b).view.loc (c : Thread nD τ)))
    (e : (resSlot s).view.read (Elt F) g = blk c XA arg2 arg5 g2 g5 b) :
    outP c b (stored c s b g f) ⊢ outDone c XA arg2 arg5 g2 g5 b := by
  have h : (outBlk b).view.read (Elt F) (stored c s b g f) = blk c XA arg2 arg5 g2 g5 b := (View.read_writes_whole (outBlk b).view f _).trans e
  unfold outDone
  rw [← h]
  exact pointsTo_rep_entails (c : Thread nD τ) (outBlk b) _ fullShare

variable (k : ℕ)

/-- A trip before the last takes the next input block out and leaves its copy under way. -/
abbrev issueIn : sProp 𝕄 := if k + 1 < 8 then adjP c XA (Ring.bk 8 (k + 1)) else iprop(⌜True⌝)
abbrev issueOut : sProp 𝕄 := if k + 1 < 8 then inBusy c XA (Ring.sl 2 (k + 1)) (Ring.bk 8 (k + 1)) else inFree c (Ring.sl 2 (k + 1))
/-- A trip after the first finds the previous output copy under way and leaves its block done. -/
abbrev drainIn : sProp 𝕄 :=
  if 1 ≤ k then resBusy c XA arg2 arg5 g2 g5 (Ring.sl 2 (k + 1)) (Ring.bk 8 (k - 1)) else resFree c (Ring.sl 2 (k + 1))
abbrev drainOut : sProp 𝕄 := if 1 ≤ k then outDone c XA arg2 arg5 g2 g5 (Ring.bk 8 (k - 1)) else iprop(⌜True⌝)

/-- What trip `k` is handed -/
abbrev before : sProp 𝕄 :=
  iprop(fixed c arg2 arg5 g2 g5 ∗ inBusy c XA (Ring.sl 2 k) (Ring.bk 8 k) ∗ outP c (Ring.bk 8 k) X0 ∗ resFree c (Ring.sl 2 k)
    ∗ inFree c (Ring.sl 2 (k + 1)) ∗ issueIn c XA k ∗ drainIn c XA arg2 arg5 g2 g5 k)
/-- and what it hands back. -/
abbrev after : sProp 𝕄 :=
  iprop(fixed c arg2 arg5 g2 g5 ∗ adjP c XA (Ring.bk 8 k) ∗ inFree c (Ring.sl 2 k) ∗ resBusy c XA arg2 arg5 g2 g5 (Ring.sl 2 k) (Ring.bk 8 k)
    ∗ resFree c (Ring.sl 2 (k + 1)) ∗ issueOut c XA k ∗ drainOut c XA arg2 arg5 g2 g5 k)

end Trip

/-! ## The trip's run -/

section Run

variable (c : Dev nD) (XA : AdjBuf (F := F) c) (X0 : OutBuf (F := F) c)
  (arg0 : Memref sig .tc .vmem S4096x64 .f32) (harg0 : arg0.IsWhole)
  (arg1 : Memref sig .tc .vmem S64x64 .f32) (harg1 : arg1.IsWhole)
  (arg2 : Memref sig .tc .vmem S1x64 .f32) (harg2 : arg2.IsWhole)
  (arg5 : Memref sig .tc .vmem S4096x64 .bf16) (harg5 : arg5.IsWhole)
  (g2 : Buf (Elt F) (arg2.view.loc (c : Thread nD τ))) (g5 : Buf (Elt F) (arg5.view.loc (c : Thread nD τ)))

/-- The loop's body on these buffers, at trip `k`. -/
abbrev tripG (k : Fin k0_t1_loop.trips) (acc : BitVec 32 × BitVec 32 × BitVec 32 × BitVec 32 × BitVec 32) :=
  k0_t1_body (F := F) arg0 harg0 arg1 harg1 arg2 harg2 adjM (Memref.isWhole_whole _) outM (Memref.isWhole_whole _) arg5 harg5
    inM (Memref.isWhole_whole _) cc0_scoped1 resM (Memref.isWhole_whole _) cc0_scoped3 0#32 1#32 k acc

/-- Trip `k` carries the words of trip `k` to those of trip `k + 1`, and what it is handed to what it hands back. -/
theorem trip_run (k : Fin k0_t1_loop.trips) :
    before c XA X0 arg2 arg5 g2 g5 k.val
      ⊢ wp frame (wpE (defs₀ (F := F)) 𝒱₀ (c : Thread nD τ) none) Set.univ (tripG arg0 harg0 arg1 harg1 arg2 harg2 arg5 harg5 k (carried k.val))
          (fun acc => iprop(⌜acc = carried (k.val + 1)⌝ ∗ after c XA arg2 arg5 g2 g5 k.val)) := by
  have hk8 : k.val < 8 := Nat.lt_of_lt_of_eq k.isLt trips_eq
  have hc2 := cond2_pos k
  have hc5 := cond5_pos k
  have hk1 := chk1 k
  have hk2 := chk2 k
  have hk3 := chk3 k
  have hi : (k.val + 1 < 8 ∧ k0_cond1 k (block k.val) = 1#1) ∨ (¬ k.val + 1 < 8 ∧ ¬ k0_cond1 k (block k.val) = 1#1) :=
    if h : k.val + 1 < 8 then .inl ⟨h, cond1_pos k h⟩ else .inr ⟨h, cond1_neg k h⟩
  have ho : (1 ≤ k.val ∧ k0_cond7 k (block k.val) = 1#1) ∨ (¬ 1 ≤ k.val ∧ ¬ k0_cond7 k (block k.val) = 1#1) :=
    if h : 1 ≤ k.val then .inl ⟨h, cond7_pos k h⟩ else .inr ⟨h, cond7_neg k h⟩
  unfold before after issueIn issueOut drainIn drainOut
  rcases hi with ⟨hi, hc1⟩ | ⟨hi, hc1⟩ <;> rcases ho with ⟨ho, hc7⟩ | ⟨ho, hc7⟩
  all_goals first | (exfalso; omega) | simp only [hi, ho, if_true, if_false]
  all_goals
    iintro ⟨⟨H2, H5, %W, HW⟩, ⟨%fi, HI⟩, HO, ⟨HRc, %go, HR⟩, ⟨HJc, %fj, HJ⟩, HA, HQ⟩
    first
      | icases HQ with ⟨%gq, %fq, %eq, HQ⟩
      | icases HQ with ⟨HQ, %gq, HQ_src⟩
    dsimp only [tripG]
    sl_unfold [k0_t1_body]
    sl_exec
    sl_step
    isplitr
    · ipureintro; clear * -; revert k; decide
    isplitl [H2 H5 HW]
    · isplitl [H2]; · iexact H2
      isplitl [H5]; · iexact H5
      iexists _; iexact HW
    isplitl [HI_src]; · iexact HI_src
    isplitl [HI HI_dst]
    · isplitl [HI]; · iexact HI
      iexists _; iexact HI_dst
    isplitl [HRc]
    · iexists _, _
      isplitr
      rotate_left
      · iexact HRc
      · ipureintro; exact slot_value c XA arg2 arg5 g2 g5 (off9_eq k) (off10_eq k) _ _ _ _ _
    isplitl [HQ HQ_src]
    · isplitl [HQ]; · iexact HQ
      iexists _; iexact HQ_src
    first
      | isplitl [HJ HJc]
        · isplitl [HJc]; · iexact HJc
          iexists _; iexact HJ
      | isplitl [HJc]; · iexists _; iexact HJc
    first
      | iapply (outDone_of c XA arg2 arg5 g2 g5 _ eq) $$ HQ_dst
      | (ipureintro; trivial)

end Run

end Cert.Proof.Gcn

end
-- ==== Proof.Loop.lean ====
/-
  The inner pipeline's loop: what is held before trip `k`, as one proposition of `k`, and that each trip carries it on.
-/
module

public import proofs.«01_k».proof.Proof.Trip

@[expose] public section

noncomputable section

namespace Cert.Proof.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Sets
variable (c : Dev nD) (XA : AdjBuf (F := F) c) (X0 : OutBuf (F := F) c)
  (arg2 : Memref sig .tc .vmem S1x64 .f32) (arg5 : Memref sig .tc .vmem S4096x64 .bf16)
  (g2 : Buf (Elt F) (arg2.view.loc (c : Thread nD τ))) (g5 : Buf (Elt F) (arg5.view.loc (c : Thread nD τ)))

/-- Before trip `k` every adjacency block but block `k` is home; the trip takes block `k + 1` out of them, when there is one, -/
theorem homes_open (k : ℕ) : bigSep (Ring.homeSet 1 k) (adjP c XA) ⊢ iprop(issueIn c XA k ∗ bigSep (Ring.homeSet 2 k) (adjP c XA)) := by
  unfold issueIn
  by_cases h : k + 1 < 8
  · have e : Ring.homeSet (NB := 8) 1 k = insert (Ring.bk 8 (k + 1)) (Ring.homeSet 2 k) := by
      ext b
      simp only [Finset.mem_insert, Ring.mem_homeSet, Fin.ext_iff, Ring.bk_val h]
      omega
    have hn : Ring.bk 8 (k + 1) ∉ Ring.homeSet (NB := 8) 2 k := by rw [Ring.mem_homeSet, Ring.bk_val h]; omega
    rw [if_pos h, e, bigSep_insert hn]; exact .rfl
  · have e : Ring.homeSet (NB := 8) 1 k = Ring.homeSet 2 k := by
      ext b
      have := b.isLt
      simp only [Ring.mem_homeSet]
      omega
    rw [if_neg h, e]
    iintro H
    isplitr
    · ipureintro; trivial
    · iexact H
/-- and brings block `k` home. -/
theorem homes_close (k : ℕ) (hk : k < 8) : iprop(adjP c XA (Ring.bk 8 k) ∗ bigSep (Ring.homeSet 2 k) (adjP c XA)) ⊢ bigSep (Ring.homeSet 1 (k + 1)) (adjP c XA) := by
  have e : Ring.homeSet (NB := 8) 1 (k + 1) = insert (Ring.bk 8 k) (Ring.homeSet 2 k) := by
    ext b
    simp only [Finset.mem_insert, Ring.mem_homeSet, Fin.ext_iff, Ring.bk_val hk]
    omega
  have hn : Ring.bk 8 k ∉ Ring.homeSet (NB := 8) 2 k := by rw [Ring.mem_homeSet, Ring.bk_val hk]; omega
  rw [e, bigSep_insert hn]; exact .rfl

/-- Trip `k` takes result block `k` out of those not yet begun. -/
theorem ahead_open (k : ℕ) (hk : k < 8) (Φ : Fin 8 → sProp 𝕄) :
    bigSep (Ring.aheadSet k) Φ ⊢ iprop(Φ (Ring.bk 8 k) ∗ bigSep (Ring.aheadSet (k + 1)) Φ) := by
  rw [Ring.aheadSet_open k hk, bigSep_insert (Ring.bk_not_mem_aheadSet_succ k hk)]; exact .rfl
/-- The block the previous trip left under way joins those done. -/
theorem behind_close (k : ℕ) (hk : k < 8) :
    iprop(drainOut c XA arg2 arg5 g2 g5 k ∗ bigSep (Ring.behindSet 1 k) (outDone c XA arg2 arg5 g2 g5)) ⊢ bigSep (Ring.behindSet 1 (k + 1)) (outDone c XA arg2 arg5 g2 g5) := by
  unfold drainOut
  by_cases h : 1 ≤ k
  · rw [if_pos h, Ring.behindSet_close 1 k h hk, bigSep_insert (Ring.bk_not_mem_behindSet 1 k h hk)]; exact .rfl
  · have h0 : k = 0 := by omega
    subst h0
    rw [Ring.behindSet_boot 1 (0 + 1) (by decide), Ring.behindSet_boot 1 0 (by decide)]
    iintro ⟨-, H⟩
    iexact H

/-- The input slot of trip `k`: being filled with block `k`, while there is one. -/
abbrev inRole (k : ℕ) : sProp 𝕄 := if k < 8 then inBusy c XA (Ring.sl 2 k) (Ring.bk 8 k) else inFree c (Ring.sl 2 k)

/-- What is held before trip `k` of the eight, and at `k = 8` after them. -/
def held (k : ℕ) : sProp 𝕄 :=
  iprop(fixed c arg2 arg5 g2 g5 ∗ bigSep (Ring.homeSet 1 k) (adjP c XA) ∗ inRole c XA k ∗ inFree c (Ring.sl 2 (k + 1))
    ∗ bigSep (Ring.aheadSet k) (fun b => outP c b X0) ∗ bigSep (Ring.behindSet 1 k) (outDone c XA arg2 arg5 g2 g5)
    ∗ resFree c (Ring.sl 2 k) ∗ drainIn c XA arg2 arg5 g2 g5 k)
/-- What a trip leaves alone. -/
abbrev aside (k : ℕ) : sProp 𝕄 :=
  iprop(bigSep (Ring.homeSet 2 k) (adjP c XA) ∗ bigSep (Ring.aheadSet (k + 1)) (fun b => outP c b X0) ∗ bigSep (Ring.behindSet 1 k) (outDone c XA arg2 arg5 g2 g5))

theorem held_open (k : ℕ) (hk : k < 8) : held c XA X0 arg2 arg5 g2 g5 k ⊢ iprop(aside c XA X0 arg2 arg5 g2 g5 k ∗ before c XA X0 arg2 arg5 g2 g5 k) := by
  unfold held inRole
  rw [if_pos hk]
  iintro ⟨HF, HA, HI, HJ, HO, HB, HR, HD⟩
  ihave HA' := (homes_open c XA k) $$ HA
  icases HA' with ⟨HA1, HA2⟩
  ihave HO' := (ahead_open k hk (fun b => outP c b X0)) $$ HO
  icases HO' with ⟨HO1, HO2⟩
  isplitl [HA2 HO2 HB]
  · isplitl [HA2]; · iexact HA2
    isplitl [HO2]; · iexact HO2
    iexact HB
  isplitl [HF]; · iexact HF
  isplitl [HI]; · iexact HI
  isplitl [HO1]; · iexact HO1
  isplitl [HR]; · iexact HR
  isplitl [HJ]; · iexact HJ
  isplitl [HA1]; · iexact HA1
  iexact HD

theorem sl2_twice (k : ℕ) : Ring.sl 2 (k + 1 + 1) = Ring.sl 2 k := Ring.sl_succ_add 2 k 1 rfl

theorem held_close (k : ℕ) (hk : k < 8) : iprop(aside c XA X0 arg2 arg5 g2 g5 k ∗ after c XA arg2 arg5 g2 g5 k) ⊢ held c XA X0 arg2 arg5 g2 g5 (k + 1) := by
  unfold held inRole drainIn
  rw [if_pos (show 1 ≤ k + 1 by omega), sl2_twice, Nat.add_sub_cancel]
  iintro ⟨⟨HA2, HO2, HB⟩, HF, HA1, HI, HR, HS, HJ, HD⟩
  ihave HA := (homes_close c XA k hk) $$ [HA1 HA2]
  · isplitl [HA1]; · iexact HA1
    iexact HA2
  ihave HB' := (behind_close c XA arg2 arg5 g2 g5 k hk) $$ [HD HB]
  · isplitl [HD]; · iexact HD
    iexact HB
  isplitl [HF]; · iexact HF
  isplitl [HA]; · iexact HA
  isplitl [HJ]; · iexact HJ
  isplitl [HI]; · iexact HI
  isplitl [HO2]; · iexact HO2
  isplitl [HB']; · iexact HB'
  isplitl [HS]; · iexact HS
  iexact HR

end Sets

section Inv
variable (c : Dev nD) (XA : AdjBuf (F := F) c) (X0 : OutBuf (F := F) c)
  (arg0 : Memref sig .tc .vmem S4096x64 .f32) (harg0 : arg0.IsWhole)
  (arg1 : Memref sig .tc .vmem S64x64 .f32) (harg1 : arg1.IsWhole)
  (arg2 : Memref sig .tc .vmem S1x64 .f32) (harg2 : arg2.IsWhole)
  (arg5 : Memref sig .tc .vmem S4096x64 .bf16) (harg5 : arg5.IsWhole)
  (g2 : Buf (Elt F) (arg2.view.loc (c : Thread nD τ))) (g5 : Buf (Elt F) (arg5.view.loc (c : Thread nD τ)))

/-- The loop's invariant: the carried words are those of trip `k`, and what is held is what trip `k` finds. -/
@[irreducible] def heldAt (k : ℕ) (acc : BitVec 32 × BitVec 32 × BitVec 32 × BitVec 32 × BitVec 32) : sProp 𝕄 :=
  iprop(⌜acc = carried k⌝ ∗ held c XA X0 arg2 arg5 g2 g5 k)

set_option warn.classDefReducibility false in
/-- Each trip carries the invariant on. -/
@[sl_loop] def gcnLoop (init : BitVec 32 × BitVec 32 × BitVec 32 × BitVec 32 × BitVec 32) :
    LoopInvTy_k0_t1 (F := F) Unit ℕ (UU nD τ) ℕ 𝒱₀ c none Set.univ arg0 harg0 arg1 harg1 arg2 harg2 adjM (Memref.isWhole_whole _) outM (Memref.isWhole_whole _)
      arg5 harg5 inM (Memref.isWhole_whole _) cc0_scoped1 resM (Memref.isWhole_whole _) cc0_scoped3 0#32 1#32 init where
  inv k acc := heldAt c XA X0 arg2 arg5 g2 g5 k acc
  step k acc := by
    have hk : k.val < 8 := Nat.lt_of_lt_of_eq k.isLt trips_eq
    unfold heldAt
    iintro ⟨%e, H⟩
    subst e
    ihave H' := (held_open c XA X0 arg2 arg5 g2 g5 k.val hk) $$ H
    icases H' with ⟨HA, HB⟩
    iapply (wp_wand_r Idealize.ShloMosaic.frame (wpE (defs₀ (F := F)) 𝒱₀ (c : Thread nD τ) none) Set.univ)
    isplitl [HB]
    · iapply (trip_run c XA X0 arg0 harg0 arg1 harg1 arg2 harg2 arg5 harg5 g2 g5 k); iexact HB
    · iintro %acc ⟨%e, H⟩
      isplitr
      · ipureintro; exact e
      iapply (held_close c XA X0 arg2 arg5 g2 g5 k.val hk)
      isplitl [HA]; · iexact HA
      iexact H

end Inv

end Cert.Proof.Gcn

end
-- ==== Proof.Body.lean ====
/-
  The kernel's body from its first load to its last wait: the support matrix, the first input block's copy, the eight
  trips, and the last result block's copy waited for.
-/
module

public import proofs.«01_k».proof.Proof.Loop

@[expose] public section

noncomputable section

namespace Cert.Proof.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (XA : AdjBuf (F := F) c) (X0 : OutBuf (F := F) c)
  (arg0 : Memref sig .tc .vmem S4096x64 .f32) (harg0 : arg0.IsWhole)
  (arg1 : Memref sig .tc .vmem S64x64 .f32) (harg1 : arg1.IsWhole)
  (arg2 : Memref sig .tc .vmem S1x64 .f32) (harg2 : arg2.IsWhole)
  (arg5 : Memref sig .tc .vmem S4096x64 .bf16) (harg5 : arg5.IsWhole)
  (g0 : Buf (Elt F) (arg0.view.loc (c : Thread nD τ))) (g1 : Buf (Elt F) (arg1.view.loc (c : Thread nD τ)))
  (g2 : Buf (Elt F) (arg2.view.loc (c : Thread nD τ))) (g5 : Buf (Elt F) (arg5.view.loc (c : Thread nD τ)))

/-- The kernel's body on these buffers. -/
abbrev bodyG : Prog (TpuEff nD τ sig (Elt F) Λ₀ .tc) PUnit :=
  cc0__gcn_kernel arg0 harg0 arg1 harg1 arg2 harg2 adjM (Memref.isWhole_whole _) outM (Memref.isWhole_whole _) arg5 harg5
    inM (Memref.isWhole_whole _) cc0_scoped1 resM (Memref.isWhole_whole _) cc0_scoped3

/-- The node features and the weights as the body loads them. -/
abbrev featOf : Vec F S4096x64 .f32 := arg0.view.readAt (Elt F) (Rect.unit (s := S4096x64) ![0, 0] S4096x64.size inb_S4096x64_S4096x64_0_0).toLoadRect g0
abbrev wgtOf : Vec F S64x64 .f32 := arg1.view.readAt (Elt F) (Rect.unit (s := S64x64) ![0, 0] S64x64.size inb_S64x64_S64x64_0_0).toLoadRect g1
/-- The scratch buffer once the support matrix is stored in it. -/
abbrev supBuf : Buf (Elt F) (arg5.view.loc (c : Thread nD τ)) :=
  arg5.view.writes (Elt F) arg5.view.junk
    [⟨Rect.unit (s := S4096x64) ![0, 0] S4096x64.size inb_S4096x64_S4096x64_0_0, k0_pay2 (featOf c arg0 g0) (wgtOf c arg1 g1)⟩]

/-- What is held at the loop's entry, from what the copies before it left. -/
theorem enter_loop (W : Waits sig Unit) (f0 : Buf (Elt F) ((inSlot 0).view.loc (c : Thread nD τ))) :
    iprop((arg2.view.loc (c : Thread nD τ) ↦[arg2.view.set]{fullShare} g2) ∗ (arg5.view.loc (c : Thread nD τ) ↦[arg5.view.set]{fullShare} g5)
      ∗ owes (c : Thread nD τ) 0 W ∗ bigSep (Ring.homeSet 1 0) (adjP c XA) ∗ inFlight c XA 0 0 f0 ∗ inFree c 1
      ∗ bigSep Finset.univ (fun b => outP c b X0) ∗ resFree c 0 ∗ resFree c 1)
    ⊢ heldAt c XA X0 arg2 arg5 g2 g5 0 (carried 0) := by
  unfold heldAt held inRole drainIn
  rw [if_pos (by decide), if_neg (by decide), Ring.aheadSet_zero, Ring.behindSet_boot 1 0 (by decide), bigSep_empty]
  iintro ⟨H2, H5, HW, HA, HI, HJ, HO, HR, HS⟩
  isplitr
  · ipureintro; rfl
  isplitl [H2 H5 HW]
  · isplitl [H2]; · iexact H2
    isplitl [H5]; · iexact H5
    iexists _; iexact HW
  isplitl [HA]; · iexact HA
  isplitl [HI]; · iexists f0; iexact HI
  isplitl [HJ]; · iexact HJ
  isplitl [HO]; · iexact HO
  isplitr
  · exact .rfl
  isplitl [HR]; · iexact HR
  iexact HS

/-- What is held at the loop's exit, the last copy still under way. -/
theorem leave_loop (acc : BitVec 32 × BitVec 32 × BitVec 32 × BitVec 32 × BitVec 32) :
    heldAt c XA X0 arg2 arg5 g2 g5 (Scf.trips k0_t1_loop.lb k0_t1_loop.ub k0_t1_loop.st) acc
    ⊢ iprop(⌜acc = carried 8⌝ ∗ fixed c arg2 arg5 g2 g5 ∗ bigSep Finset.univ (adjP c XA) ∗ inFree c 0 ∗ inFree c 1
      ∗ bigSep (Ring.behindSet 1 8) (outDone c XA arg2 arg5 g2 g5) ∗ resFree c 0 ∗ resBusy c XA arg2 arg5 g2 g5 1 7) := by
  rw [show Scf.trips k0_t1_loop.lb k0_t1_loop.ub k0_t1_loop.st = 8 from trips_eq]
  unfold heldAt held inRole drainIn
  rw [if_neg (by decide), if_pos (by decide), Ring.homeSet_last 1 8 (by decide)]
  iintro ⟨%e, HF, HA, HI, HJ, -, HB, HR, HS⟩
  isplitr
  · ipureintro; exact e
  isplitl [HF]; · iexact HF
  isplitl [HA]; · iexact HA
  isplitl [HI]; · iexact HI
  isplitl [HJ]; · iexact HJ
  isplitl [HB]; · iexact HB
  isplitl [HR]; · iexact HR
  iexact HS

/-- With the last block every result block is done. -/
theorem all_done :
    iprop(outDone c XA arg2 arg5 g2 g5 7 ∗ bigSep (Ring.behindSet 1 8) (outDone c XA arg2 arg5 g2 g5)) ⊢ bigSep Finset.univ (outDone c XA arg2 arg5 g2 g5) := by
  have e : (Finset.univ : Finset (Fin 8)) = insert 7 (Ring.behindSet 1 8) := by decide
  have hn : (7 : Fin 8) ∉ Ring.behindSet (NB := 8) 1 8 := by decide
  rw [e, bigSep_insert hn]; exact .rfl

/-- What the body is handed: its three staged operands, the support scratch, the adjacency blocks home (block 0 apart), every
    result block at its old contents, both double buffers free. -/
abbrev bodyPre (W : Waits sig Unit) : sProp 𝕄 :=
  iprop((arg0.view.loc (c : Thread nD τ) ↦[arg0.view.set]{fullShare} g0) ∗ (arg1.view.loc (c : Thread nD τ) ↦[arg1.view.set]{fullShare} g1)
    ∗ (arg2.view.loc (c : Thread nD τ) ↦[arg2.view.set]{fullShare} g2) ∗ (arg5.view.loc (c : Thread nD τ) ↦[arg5.view.set]{fullShare} g5)
    ∗ owes (c : Thread nD τ) 0 W
    ∗ adjP c XA 0 ∗ bigSep (Ring.homeSet 1 0) (adjP c XA) ∗ inFree c 0 ∗ inFree c 1
    ∗ bigSep Finset.univ (fun b => outP c b X0) ∗ resFree c 0 ∗ resFree c 1)
/-- What it hands back: the same, the result blocks done, the scratch at the support matrix. -/
abbrev bodyPost : sProp 𝕄 :=
  iprop((arg0.view.loc (c : Thread nD τ) ↦[arg0.view.set]{fullShare} g0) ∗ (arg1.view.loc (c : Thread nD τ) ↦[arg1.view.set]{fullShare} g1)
    ∗ fixed c arg2 arg5 g2 (supBuf c arg0 arg1 arg5 g0 g1)
    ∗ bigSep Finset.univ (adjP c XA) ∗ inFree c 0 ∗ inFree c 1
    ∗ bigSep Finset.univ (outDone c XA arg2 arg5 g2 (supBuf c arg0 arg1 arg5 g0 g1)) ∗ resFree c 0 ∗ resFree c 1)

/-- The body's run. -/
theorem body_run (W : Waits sig Unit) :
    bodyPre c XA X0 arg0 arg1 arg2 arg5 g0 g1 g2 g5 W
   ⊢ wp frame (wpE (defs₀ (F := F)) 𝒱₀ (c : Thread nD τ) none) Set.univ (bodyG arg0 harg0 arg1 harg1 arg2 harg2 arg5 harg5)
        (fun _ => bodyPost c XA arg0 arg1 arg2 arg5 g0 g1 g2) := by
  have hk4 := chk4
  have hk5 := chk5
  iintro ⟨H0, H1, H2, H5, HW, HA, HAs, ⟨HI0c, %f0, HI0⟩, HI1, HO, HR0, HR1⟩
  sl_exec
  ihave HL := (enter_loop c XA X0 arg2 arg5 g2 (supBuf c arg0 arg1 arg5 g0 g1) W f0) $$ [H2 H5 HW HAs HI0c HI1 HO HR0 HR1]
  · isplitl [H2]; · iexact H2
    isplitl [H5]; · iexact H5
    isplitl [HW]; · iexact HW
    isplitl [HAs]; · iexact HAs
    isplitl [HI0c]; · iexact HI0c
    isplitl [HI1]; · iexact HI1
    isplitl [HO]; · iexact HO
    isplitl [HR0]; · iexact HR0
    iexact HR1
  sl_exec
  ihave HE := (leave_loop c XA X0 arg2 arg5 g2 (supBuf c arg0 arg1 arg5 g0 g1) _) $$ HL
  icases HE with ⟨%e, ⟨H2, H5, %W', HW⟩, HA, HI0, HI1, HB, HR0, %gq, %fq, %eq, HQ⟩
  subst e
  sl_exec
  sl_step
  isplitl [H0]; · iexact H0
  isplitl [H1]; · iexact H1
  isplitl [H2 H5 HW]
  · isplitl [H2]; · iexact H2
    isplitl [H5]; · iexact H5
    iexists _; iexact HW
  isplitl [HA]; · iexact HA
  isplitl [HI0]; · iexact HI0
  isplitl [HI1]; · iexact HI1
  isplitl [HQ_dst HB]
  · iapply (all_done c XA arg2 arg5 g2 (supBuf c arg0 arg1 arg5 g0 g1))
    isplitl [HQ_dst]
    · iapply (outDone_of c XA arg2 arg5 g2 (supBuf c arg0 arg1 arg5 g0 g1) _ eq) $$ HQ_dst
    iexact HB
  isplitl [HR0]; · iexact HR0
  isplitl [HQ]; · iexact HQ
  iexists _; iexact HQ_src

end Body

end Cert.Proof.Gcn

end
-- ==== Proof.Whole.lean ====
/-
  The kernel's buffers whole and in pieces: the adjacency matrix and the result are their eight row blocks, each double
  buffer is its two slots. A result whose blocks are done is one array, named here.
-/
module

public import proofs.«01_k».proof.Proof.Body
public import Idealize.ShloMosaic.Lib.ValueIdx

@[expose] public section

noncomputable section

namespace Cert.Proof.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]
local notation "𝕄" => MT nD τ sig Unit (Elt F) ℕ (UU nD τ) ℕ

/-! ## The elements of a piece -/

/-- The elements of block `b` of the adjacency matrix and of the result, of slot `s` of the two double buffers. -/
abbrev adjSet (b : Fin 8) : Finset S4096x4096.Idx := (Rect.unit (s := S4096x4096) (rowOff b) S512x4096.size (adjRow_inb b)).set
abbrev outSet (b : Fin 8) : Finset S4096x64.Idx := (Rect.unit (s := S4096x64) (rowOff b) S512x64.size (outRow_inb b)).set
abbrev inSet (s : Fin 2) : Finset S2x512x4096.Idx := (Rect.unit (s := S2x512x4096) (slotOff s) S1x512x4096.size (inSlot_inb s)).set
abbrev resSet (s : Fin 2) : Finset S2x512x64.Idx := (Rect.unit (s := S2x512x64) (slotOff s) S1x512x64.size (resSlot_inb s)).set

theorem adjBlk_set (b : Fin 8) : (adjBlk b).view.set = adjSet b := View.set_slice_whole _ _
theorem outBlk_set (b : Fin 8) : (outBlk b).view.set = outSet b := View.set_slice_whole _ _
theorem inSlot_set (s : Fin 2) : (inSlot s).view.set = inSet s := (View.set_reshape _ _).trans (View.set_slice_whole _ _)
theorem resSlot_set (s : Fin 2) : (resSlot s).view.set = resSet s := (View.set_reshape _ _).trans (View.set_slice_whole _ _)

theorem adj_apart (b b' : Fin 8) (h : b ≠ b') : Disjoint (adjSet b) (adjSet b') :=
  Ring.lead_disjoint (s := S4096x4096) 0 512 rowOff S512x4096.size adjRow_inb (by decide) (by decide) b b' h
theorem adj_cover : Finset.univ.biUnion adjSet = Finset.univ :=
  Ring.lead_cover (s := S4096x4096) 0 512 rowOff S512x4096.size adjRow_inb (by decide) (by decide) (by decide) (by decide) (by decide)
theorem out_apart (b b' : Fin 8) (h : b ≠ b') : Disjoint (outSet b) (outSet b') :=
  Ring.lead_disjoint (s := S4096x64) 0 512 rowOff S512x64.size outRow_inb (by decide) (by decide) b b' h
theorem out_cover : Finset.univ.biUnion outSet = Finset.univ :=
  Ring.lead_cover (s := S4096x64) 0 512 rowOff S512x64.size outRow_inb (by decide) (by decide) (by decide) (by decide) (by decide)
theorem in_apart (s s' : Fin 2) (h : s ≠ s') : Disjoint (inSet s) (inSet s') :=
  Ring.lead_disjoint (s := S2x512x4096) 0 1 slotOff S1x512x4096.size inSlot_inb (by decide) (by decide) s s' h
theorem in_cover : Finset.univ.biUnion inSet = Finset.univ :=
  Ring.lead_cover (s := S2x512x4096) 0 1 slotOff S1x512x4096.size inSlot_inb (by decide) (by decide) (by decide) (by decide) (by decide)
theorem res_apart (s s' : Fin 2) (h : s ≠ s') : Disjoint (resSet s) (resSet s') :=
  Ring.lead_disjoint (s := S2x512x64) 0 1 slotOff S1x512x64.size resSlot_inb (by decide) (by decide) s s' h
theorem res_cover : Finset.univ.biUnion resSet = Finset.univ :=
  Ring.lead_cover (s := S2x512x64) 0 1 slotOff S1x512x64.size resSlot_inb (by decide) (by decide) (by decide) (by decide) (by decide)

/-! ## The matrices by their blocks -/

section Blocks
variable (c : Dev nD)

/-- The adjacency matrix whole is its eight blocks; -/
theorem adj_blocks (f : Buf (Elt F) ((c : Thread nD τ).loc main_arg1)) :
    (((c : Thread nD τ).loc main_arg1) ↦{fullShare} f : sProp 𝕄) = bigSep Finset.univ (adjP c f) := by
  rw [Ring.pointsTo_blocks (ℓ := (c : Thread nD τ).loc main_arg1) adjSet adj_apart adj_cover]
  exact bigSep_congr fun b _ => by rw [← adjBlk_set]; rfl
/-- so is the result. -/
theorem out_blocks (f : Buf (Elt F) ((c : Thread nD τ).loc main_v1)) :
    (((c : Thread nD τ).loc main_v1) ↦{fullShare} f : sProp 𝕄) = bigSep Finset.univ (fun b => outP c b f) := by
  rw [Ring.pointsTo_blocks (ℓ := (c : Thread nD τ).loc main_v1) outSet out_apart out_cover]
  exact bigSep_congr fun b _ => by rw [← outBlk_set]; rfl

/-- The body starts with adjacency block 0 apart from the others. -/
theorem adj_first (XA : AdjBuf (F := F) c) :
    bigSep Finset.univ (adjP c XA) = iprop(adjP c XA 0 ∗ bigSep (Ring.homeSet 1 0) (adjP c XA)) := by
  have e : (Finset.univ : Finset (Fin 8)) = insert 0 (Ring.homeSet 1 0) := by decide
  have hn : (0 : Fin 8) ∉ Ring.homeSet (NB := 8) 1 0 := by decide
  rw [e, bigSep_insert hn]; rfl

/-- The array whose block `b` is `v b`. -/
def glue (v : Fin 8 → FVec F S512x64 .f32) : FVec F S4096x64 .f32 := fun i =>
  v ⟨(i 0).val / 512, Nat.div_lt_of_lt_mul (i 0).isLt⟩ (ix2 ⟨(i 0).val % 512, Nat.mod_lt _ (by decide)⟩ ⟨(i 1).val, (i 1).isLt⟩)

/-- Its block `b` reads as `v b`. -/
theorem read_glue (v : Fin 8 → FVec F S512x64 .f32) (b : Fin 8) : (outBlk b).view.read (Elt F) (glue v) = v b := by
  funext y
  have h0 : (y 0).val < 512 := (y 0).isLt
  obtain ⟨i, hi⟩ : ∃ i : S4096x64.Idx, i = (outBlk b).view.emb y := ⟨_, rfl⟩
  have e0 : (i 0).val = 512 * b.val + 1 * (y 0).val := by rw [hi]; rfl
  have e1 : (i 1).val = 0 + 1 * (y 1).val := by rw [hi]; rfl
  show glue v ((outBlk b).view.emb y) = v b y
  rw [← hi]
  unfold glue
  refine congr (congrArg v (Fin.ext ?_)) (Shape.idx_ext₂ ?_ ?_)
  · show (i 0).val / 512 = b.val
    omega
  · show (i 0).val % 512 = (y 0).val
    omega
  · show (i 1).val = (y 1).val
    omega

/-- Blocks held at what they compute are the result held at the glued array. -/
theorem out_glue (v : Fin 8 → FVec F S512x64 .f32) :
    bigSep Finset.univ (fun b => outP c b ((outBlk b).view.rep (v b)))
      = (((c : Thread nD τ).loc main_v1) ↦{fullShare} (glue v : Buf (Elt F) ((c : Thread nD τ).loc main_v1)) : sProp 𝕄) := by
  rw [out_blocks]
  exact bigSep_congr fun b _ => by
    rw [← read_glue v b]
    exact (pointsTo_rep (Ix := Unit) (Name := ℕ) (U := UU nD τ) (Lvl := ℕ) (c : Thread nD τ) (outBlk b) _ fullShare).symm

end Blocks

/-! ## The double buffers by their slots -/

section Slots
variable (c : Dev nD)

theorem two (Φ : Fin 2 → sProp 𝕄) : bigSep Finset.univ Φ = iprop(Φ 0 ∗ Φ 1) :=
  bigSep_univ_eq_bigSepL [(0 : Fin 2), (1 : Fin 2)] (by decide) (by decide) Φ

/-- A buffer that two disjoint sets cover, held whole at some contents, is the two sets held at some contents each, -/
theorem halves_open {ℓ : Loc nD τ sig} (I : Fin 2 → Finset (Idx ℓ)) (hd : ∀ b b', b ≠ b' → Disjoint (I b) (I b')) (hc : Finset.univ.biUnion I = Finset.univ) :
    iprop(∃ f : Buf (Elt F) ℓ, ℓ ↦{fullShare} f) ⊢ (iprop((∃ f, ℓ ↦[I 0]{fullShare} f) ∗ ∃ f, ℓ ↦[I 1]{fullShare} f) : sProp 𝕄) := by
  iintro ⟨%f, H⟩
  ihave HS := (Entails.of_eq ((Ring.pointsTo_blocks (Ix := Unit) (Name := ℕ) (U := UU nD τ) (Lvl := ℕ) (q := fullShare) I hd hc f).trans (two _))) $$ H
  icases HS with ⟨H0, H1⟩
  isplitl [H0]
  · iexists f; iexact H0
  · iexists f; iexact H1
/-- and back. -/
theorem halves_close {ℓ : Loc nD τ sig} (I : Fin 2 → Finset (Idx ℓ)) (hd : ∀ b b', b ≠ b' → Disjoint (I b) (I b')) (hc : Finset.univ.biUnion I = Finset.univ) :
    iprop((∃ f, ℓ ↦[I 0]{fullShare} f) ∗ ∃ f, ℓ ↦[I 1]{fullShare} f) ⊢ (iprop(∃ f : Buf (Elt F) ℓ, ℓ ↦{fullShare} f) : sProp 𝕄) := by
  iintro ⟨⟨%f, H0⟩, H1⟩
  iapply (Ring.pointsTo_blocks_join_exists I hd hc f)
  irw [two]
  isplitl [H0]
  · iexists f; iexact H0
  · iexact H1

/-- The input slots by their element sets; the output slots. -/
theorem inP_eq (s : Fin 2) (f) : inP (F := F) c s f = (((c : Thread nD τ).loc cc0_scoped0) ↦[inSet s]{fullShare} f : sProp 𝕄) :=
  congrArg (fun S => (_ ↦[S]{fullShare} f : sProp 𝕄)) (inSlot_set s)
theorem resP_eq (s : Fin 2) (f) : resP (F := F) c s f = (((c : Thread nD τ).loc cc0_scoped2) ↦[resSet s]{fullShare} f : sProp 𝕄) :=
  congrArg (fun S => (_ ↦[S]{fullShare} f : sProp 𝕄)) (resSlot_set s)

theorem inSlot_ex (s : Fin 2) : iprop(∃ f, inP (F := F) c s f) = (iprop(∃ f, ((c : Thread nD τ).loc cc0_scoped0) ↦[inSet s]{fullShare} f) : sProp 𝕄) :=
  congrArg (fun P : Buf (Elt F) ((c : Thread nD τ).loc cc0_scoped0) → sProp 𝕄 => iprop(∃ f, P f)) (funext (inP_eq c s))
theorem resSlot_ex (s : Fin 2) : iprop(∃ f, resP (F := F) c s f) = (iprop(∃ f, ((c : Thread nD τ).loc cc0_scoped2) ↦[resSet s]{fullShare} f) : sProp 𝕄) :=
  congrArg (fun P : Buf (Elt F) ((c : Thread nD τ).loc cc0_scoped2) → sProp 𝕄 => iprop(∃ f, P f)) (funext (resP_eq c s))

/-- The double buffers at some contents, -/
abbrev inSome : sProp 𝕄 := iprop(∃ f : Buf (Elt F) ((c : Thread nD τ).loc cc0_scoped0), ((c : Thread nD τ).loc cc0_scoped0) ↦{fullShare} f)
abbrev resSome : sProp 𝕄 := iprop(∃ f : Buf (Elt F) ((c : Thread nD τ).loc cc0_scoped2), ((c : Thread nD τ).loc cc0_scoped2) ↦{fullShare} f)

/-- are their slots at some contents each. -/
theorem in_open : inSome (F := F) c ⊢ iprop((∃ f, inP c 0 f) ∗ ∃ f, inP c 1 f) := by
  rw [inSlot_ex, inSlot_ex]; exact halves_open (ℓ := (c : Thread nD τ).loc cc0_scoped0) inSet in_apart in_cover
theorem in_close : iprop((∃ f, inP (F := F) c 0 f) ∗ ∃ f, inP c 1 f) ⊢ inSome c := by
  rw [inSlot_ex, inSlot_ex]; exact halves_close (ℓ := (c : Thread nD τ).loc cc0_scoped0) inSet in_apart in_cover
theorem res_open : resSome (F := F) c ⊢ iprop((∃ f, resP c 0 f) ∗ ∃ f, resP c 1 f) := by
  rw [resSlot_ex, resSlot_ex]; exact halves_open (ℓ := (c : Thread nD τ).loc cc0_scoped2) resSet res_apart res_cover
theorem res_close : iprop((∃ f, resP (F := F) c 0 f) ∗ ∃ f, resP c 1 f) ⊢ resSome c := by
  rw [resSlot_ex, resSlot_ex]; exact halves_close (ℓ := (c : Thread nD τ).loc cc0_scoped2) resSet res_apart res_cover

end Slots

end Cert.Proof.Gcn

end
-- ==== Proof.Launch.lean ====
/-
  The program's run, for any float values: from any memory with zero counters every fair execution of @main ends, the
  arguments unchanged, every counter at zero, and the result at the array the eight blocks make.
-/
module

public import proofs.«01_k».proof.Proof.Whole
public import proofs.«01_k».proof.Proof.Gen.KernelIdeal.Frame
public import Idealize.ShloMosaic.Lib.VecWindow

@[expose] public section

noncomputable section

namespace Cert.Proof.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## The result -/

/-- Block `b` of the result, of what the program finds in its arguments' buffers. -/
def resultBlock (c : Dev nD) (b : Fin 8) : FVec F S512x64 .f32 :=
  blockOf ((adjBlk b).view.read (Elt F) (V m c main_arg1)) (k0_pay2 (V m c main_arg0) (V m c main_arg2)) (V m c main_v0)
/-- The result. -/
def result (c : Dev nD) : FVec F S4096x64 .f32 := glue (resultBlock m c)

/-! ## The staged operands -/

abbrev st0 (t : Fin cfg0.N) : Memref sig .tc .vmem S4096x64 .f32 := win0_0.stage (cfg0.slots t 0)
abbrev st1 (t : Fin cfg0.N) : Memref sig .tc .vmem S64x64 .f32 := win0_1.stage (cfg0.slots t 1)
abbrev st2 (t : Fin cfg0.N) : Memref sig .tc .vmem S1x64 .f32 := win0_2.stage (cfg0.slots t 2)
/-- The scratch buffer of the support matrix. -/
abbrev supM : Memref sig .tc .vmem S4096x64 .bf16 := Memref.whole cc0_scratch0

set_option maxRecDepth 16384 in
/-- Each staged operand is its whole array. -/
theorem iblk_feat (c : Dev nD) (t : Fin cfg0.N) : (iblk m c 0 t : S4096x64.Idx → Elt F .f32) = V m c main_arg0 := by
  funext y
  show V m c main_arg0 _ = V m c main_arg0 y
  exact congrArg (V m c main_arg0) (Shape.idx_ext₂ (by show 0 + 1 * (y 0).val = (y 0).val; omega) (by show 0 + 1 * (y 1).val = (y 1).val; omega))
theorem iblk_wgt (c : Dev nD) (t : Fin cfg0.N) : (iblk m c 1 t : S64x64.Idx → Elt F .f32) = V m c main_arg2 := by
  funext y
  show V m c main_arg2 _ = V m c main_arg2 y
  exact congrArg (V m c main_arg2) (Shape.idx_ext₂ (by show 0 + 1 * (y 0).val = (y 0).val; omega) (by show 0 + 1 * (y 1).val = (y 1).val; omega))
theorem iblk_bias (c : Dev nD) (t : Fin cfg0.N) : (iblk m c 2 t : S1x64.Idx → Elt F .f32) = V m c main_v0 := by
  funext y
  show V m c main_v0 _ = V m c main_v0 y
  exact congrArg (V m c main_v0) (Shape.idx_ext₂ (by show 0 + 1 * (y 0).val = (y 0).val; omega) (by show 0 + 1 * (y 1).val = (y 1).val; omega))

/-- Buffers that hold `x0`, `x1`, `x2` give the block of those. -/
theorem blk_rep (c : Dev nD) (XA : AdjBuf (F := F) c) (arg0 : Memref sig .tc .vmem S4096x64 .f32) (arg1 : Memref sig .tc .vmem S64x64 .f32)
    (arg2 : Memref sig .tc .vmem S1x64 .f32) (arg5 : Memref sig .tc .vmem S4096x64 .bf16)
    (x0 : Vec F S4096x64 .f32) (x1 : Vec F S64x64 .f32) (x2 : Vec F S1x64 .f32) (b : Fin 8) :
    blk c XA arg2 arg5 (arg2.view.rep x2) (supBuf c arg0 arg1 arg5 (arg0.view.rep x0) (arg1.view.rep x1)) b
      = blockOf ((adjBlk b).view.read (Elt F) XA) (k0_pay2 x0 x1) x2 := by
  unfold blk supOf supBuf biasOf featOf wgtOf
  rw [View.readAt_writes_full, View.readAt_rep_full, View.readAt_rep_full, View.readAt_rep_full]

/-- Result blocks done by buffers that hold what the program finds are the result. -/
theorem out_result (c : Dev nD) (arg0 : Memref sig .tc .vmem S4096x64 .f32) (arg1 : Memref sig .tc .vmem S64x64 .f32)
    (arg2 : Memref sig .tc .vmem S1x64 .f32) (arg5 : Memref sig .tc .vmem S4096x64 .bf16) :
    bigSep Finset.univ (outDone c (V m c main_arg1) arg2 arg5 (arg2.view.rep (V m c main_v0 : Vec F S1x64 .f32))
        (supBuf c arg0 arg1 arg5 (arg0.view.rep (V m c main_arg0 : Vec F S4096x64 .f32)) (arg1.view.rep (V m c main_arg2 : Vec F S64x64 .f32))))
      = (((c : Thread nD τ).loc main_v1) ↦{fullShare} (result m c : Buf (Elt F) ((c : Thread nD τ).loc main_v1)) : sProp 𝕄) :=
  (bigSep_congr fun b _ => congrArg (fun w => (outP c b ((outBlk b).view.rep w) : sProp 𝕄)) (blk_rep c (V m c main_arg1) arg0 arg1 arg2 arg5 _ _ _ b)).trans
    (out_glue c (resultBlock m c))

/-! ## The kernel's own semaphores -/

/-- The two input semaphores and the two output semaphores. -/
abbrev osem : Fin 4 → SemLoc sig := ![.dma (inSem 0).sem, .dma (inSem 1).sem, .dma (resSem 0).sem, .dma (resSem 1).sem]
theorem ownSemFacts : Pipeline.OwnSemFacts spec0 osem := by decide

theorem ownSems0_eq (c : Dev nD) : (Pipeline.ownSems0 (Ix := Unit) (Name := ℕ) (U := UU nD τ) (Lvl := ℕ) (Val := Elt F) (τ := τ) osem c : sProp 𝕄)
    = iprop(inCell c 0 ∗ inCell c 1 ∗ resCell c 0 ∗ resCell c 1) := by
  unfold Pipeline.ownSems0
  exact bigSep_univ_eq_bigSepL [(0 : Fin 4), 1, 2, 3] (by decide) (by decide) _

/-! ## The proof data -/

/-- The contents of the buffers the kernel writes: as found, then at the result. -/
def final (c : Dev nD) (b : Ref sig .tc) : Buf (Elt F) ((c : Thread nD τ).loc b) :=
  if h : b = main_v1 then h ▸ (result m c : Buf (Elt F) ((c : Thread nD τ).loc main_v1)) else V m c b
theorem final_out (c : Dev nD) : final m c main_v1 = result m c := by unfold final; rw [dif_pos rfl]

/-- What is held around the kernel's one point besides its staged operands, the result at `W`. -/
abbrev Around (W : (c : Dev nD) → (b : Ref sig .tc) → Buf (Elt F) ((c : Thread nD τ).loc b)) (c : Dev nD) : sProp 𝕄 :=
  Pipeline.ΦDRG osem spec0 {main_arg1} {main_v1} (V m) W c

theorem around_eq (W : (c : Dev nD) → (b : Ref sig .tc) → Buf (Elt F) ((c : Thread nD τ).loc b)) (c : Dev nD) :
    Around m W c = iprop(((∃ f : Buf (Elt F) ((c : Thread nD τ).loc cc0_scratch0), ((c : Thread nD τ).loc cc0_scratch0) ↦{fullShare} f) ∗ inSome c ∗ resSome c)
      ∗ (∃ r, prngReg c r) ∗ (inCell c 0 ∗ inCell c 1 ∗ resCell c 0 ∗ resCell c 1)
      ∗ (((c : Thread nD τ).loc main_arg1) ↦{fullShare} V m c main_arg1) ∗ ((c : Thread nD τ).loc main_v1) ↦{fullShare} W c main_v1) := by
  unfold Around
  rw [Pipeline.ΦDRG_eq, scopedRest0_eq, ownSems0_eq, Pipeline.routed, bigSep_singleton, bigSep_singleton]

def dats (_ : Fin 1) (c : Dev nD) : Dat τ (Elt F) Unit ℕ (UU nD τ) ℕ cfg0 c where
  A w := V m c (Pipeline.arrRef spec0 w)
  after w t := match w with
    | ⟨0, _⟩ => (V m c main_arg0 : S4096x64.Idx → Elt F .f32)
    | ⟨1, _⟩ => (V m c main_arg2 : S64x64.Idx → Elt F .f32)
    | ⟨2, _⟩ => (V m c main_v0 : S1x64.Idx → Elt F .f32)
  Φ t := if t.val = 0 then Around m (V m) c else Around m (final m) c
  q _ := fullShare
  owed _ := 0

theorem before_feat (c : Dev nD) (t : Fin cfg0.N) (d) : (dats m 0 c).before 0 t d = V m c main_arg0 := by
  unfold Dat.before; rw [if_pos (fetch0_0 t), ← iblk_feat m c t]; unfold Dat.fetched Dat.blockOf iblk; dsimp only [dats]; rfl
theorem before_wgt (c : Dev nD) (t : Fin cfg0.N) (d) : (dats m 0 c).before 1 t d = V m c main_arg2 := by
  unfold Dat.before; rw [if_pos (fetch0_1 t), ← iblk_wgt m c t]; unfold Dat.fetched Dat.blockOf iblk; dsimp only [dats]; rfl
theorem before_bias (c : Dev nD) (t : Fin cfg0.N) (d) : (dats m 0 c).before 2 t d = V m c main_v0 := by
  unfold Dat.before; rw [if_pos (fetch0_2 t), ← iblk_bias m c t]; unfold Dat.fetched Dat.blockOf iblk; dsimp only [dats]; rfl
theorem after_feat (c : Dev nD) (t : Fin cfg0.N) : (dats m 0 c).after 0 t = V m c main_arg0 := by dsimp only [dats]
theorem after_wgt (c : Dev nD) (t : Fin cfg0.N) : (dats m 0 c).after 1 t = V m c main_arg2 := by dsimp only [dats]
theorem after_bias (c : Dev nD) (t : Fin cfg0.N) : (dats m 0 c).after 2 t = V m c main_v0 := by dsimp only [dats]
theorem Φ_start (c : Dev nD) (t : Fin cfg0.N) : (dats m 0 c).Φ t.castSucc = Around m (V m) c := by rw [fin_N0 t]; rfl
theorem Φ_end (c : Dev nD) (t : Fin cfg0.N) : (dats m 0 c).Φ t.succ = Around m (final m) c := by rw [fin_N0 t]; rfl

/-! ## The body obligation -/

/-- The body table's entry is the kernel on the staged operands. -/
theorem defs_tc : (defs₀ (F := F)) .tc cfg0.body
    = fun a => bodyG (win0_0.stage (a.2 0)) (hstage0_0 0) (win0_1.stage (a.2 1)) (hstage0_1 0) (win0_2.stage (a.2 2)) (hstage0_2 0) supM (Memref.isWhole_whole _) := rfl
theorem prog_eq (t : Fin cfg0.N) : (defs₀ (F := F)) .tc cfg0.body (cfg0.bodyArgs t (cfg0.slots t))
    = bodyG (st0 t) (hstage0_0 0) (st1 t) (hstage0_1 0) (st2 t) (hstage0_2 0) supM (Memref.isWhole_whole _) :=
  (congrFun defs_tc _).trans rfl

/-- The scratch buffer whole, under its memref. -/
theorem sup_whole (c : Dev nD) (f : Buf (Elt F) ((c : Thread nD τ).loc cc0_scratch0)) :
    (supM.view.loc (c : Thread nD τ) ↦[supM.view.set]{fullShare} f : sProp 𝕄) = (((c : Thread nD τ).loc cc0_scratch0) ↦{fullShare} f) :=
  congrArg (fun S => (_ ↦[S]{fullShare} f : sProp 𝕄)) (View.set_whole _)

/-- The three staged operands as the point finds them, held by their elements. -/
abbrev staged (c : Dev nD) (t : Fin cfg0.N) : sProp 𝕄 :=
  iprop(((st0 t).view.loc (c : Thread nD τ) ↦[(st0 t).view.set]{fullShare} (st0 t).view.rep (V m c main_arg0 : Vec F S4096x64 .f32))
    ∗ ((st1 t).view.loc (c : Thread nD τ) ↦[(st1 t).view.set]{fullShare} (st1 t).view.rep (V m c main_arg2 : Vec F S64x64 .f32))
    ∗ ((st2 t).view.loc (c : Thread nD τ) ↦[(st2 t).view.set]{fullShare} (st2 t).view.rep (V m c main_v0 : Vec F S1x64 .f32)))

/-- The point's run: from the staged operands and what is held around them, back to them with the result in place. -/
theorem point_run (c : Dev nD) (t : Fin cfg0.N) (W : Waits sig Unit) :
    iprop(Around m (V m) c ∗ owes (c : Thread nD τ) 0 W ∗ staged m c t)
   ⊢ wp frame (wpE (defs₀ (F := F)) 𝒱₀ (c : Thread nD τ) none) Set.univ
        (bodyG (st0 t) (hstage0_0 0) (st1 t) (hstage0_1 0) (st2 t) (hstage0_2 0) supM (Memref.isWhole_whole _))
        (fun _ => iprop(Around m (final m) c ∗ (∃ W', owes (c : Thread nD τ) 0 W') ∗ staged m c t)) := by
  rw [around_eq, around_eq, final_out, adj_blocks, adj_first]
  iintro ⟨⟨⟨⟨%f5, H5⟩, HIb, HRb⟩, Hp, ⟨HI0, HI1, HR0, HR1⟩, ⟨HA, HAs⟩, HO⟩, HW, H0, H1, H2⟩
  ihave HI := (in_open c) $$ HIb
  icases HI with ⟨HIa, HIb⟩
  ihave HR := (res_open c) $$ HRb
  icases HR with ⟨HRa, HRb⟩
  ihave HOs := (Entails.of_eq (out_blocks c _)) $$ HO
  ihave H5' := (Entails.of_eq (sup_whole c f5).symm) $$ H5
  iapply (wp_wand_r Idealize.ShloMosaic.frame (wpE (defs₀ (F := F)) 𝒱₀ (c : Thread nD τ) none) Set.univ)
  isplitl [H0 H1 H2 H5' HW HA HAs HI0 HI1 HIa HIb HOs HR0 HR1 HRa HRb]
  · iapply (body_run c (V m c main_arg1) (V m c main_v1) (st0 t) (hstage0_0 0) (st1 t) (hstage0_1 0) (st2 t) (hstage0_2 0) supM (Memref.isWhole_whole _)
      ((st0 t).view.rep (V m c main_arg0 : Vec F S4096x64 .f32)) ((st1 t).view.rep (V m c main_arg2 : Vec F S64x64 .f32)) ((st2 t).view.rep (V m c main_v0 : Vec F S1x64 .f32)) f5 W)
    isplitl [H0]; · iexact H0
    isplitl [H1]; · iexact H1
    isplitl [H2]; · iexact H2
    isplitl [H5']; · iexact H5'
    isplitl [HW]; · iexact HW
    isplitl [HA]; · iexact HA
    isplitl [HAs]; · iexact HAs
    isplitl [HI0 HIa]
    · isplitl [HI0]; · iexact HI0
      iexact HIa
    isplitl [HI1 HIb]
    · isplitl [HI1]; · iexact HI1
      iexact HIb
    isplitl [HOs]; · iexact HOs
    isplitl [HR0 HRa]
    · isplitl [HR0]; · iexact HR0
      iexact HRa
    isplitl [HR1]; · iexact HR1
    iexact HRb
  · iintro %_ ⟨H0, H1, ⟨H2, H5, HW⟩, HA, ⟨HI0, HIa⟩, ⟨HI1, HIb⟩, HO, ⟨HR0, HRa⟩, HR1, HRb⟩
    isplitr [HW H0 H1 H2]
    · isplitl [H5 HIa HIb HRa HRb]
      · isplitl [H5]
        · iexists _; iapply (Entails.of_eq (sup_whole c _)); iexact H5
        isplitl [HIa HIb]
        · iapply (in_close c)
          isplitl [HIa]; · iexact HIa
          iexact HIb
        · iapply (res_close c)
          isplitl [HRa]; · iexact HRa
          iexact HRb
      isplitl [Hp]; · iexact Hp
      isplitl [HI0 HI1 HR0 HR1]
      · isplitl [HI0]; · iexact HI0
        isplitl [HI1]; · iexact HI1
        isplitl [HR0]; · iexact HR0
        iexact HR1
      isplitl [HA]
      · iapply (Entails.of_eq (adj_first c _)); iexact HA
      · iapply (Entails.of_eq (out_result m c (st0 t) (st1 t) (st2 t) supM)); iexact HO
    isplitl [HW]; · iexact HW
    isplitl [H0]; · iexact H0
    isplitl [H1]; · iexact H1
    iexact H2

set_option backward.isDefEq.respectTransparency.types false in
/-- The pipeline's obligation at its one point. -/
theorem body_obligation (c : Dev nD) : BodyObligation (dats (F := F) m 0 c) (defs₀ (F := F)) 𝒱₀ () Set.univ := fun t => by
  rw [bigSep_W0, bigSep_W0]
  dsimp only
  simp only [before_feat, before_wgt, before_bias, after_feat, after_wgt, after_bias, Φ_start, Φ_end]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %g0, %hg0, H0⟩, ⟨%d1, %g1, %hg1, H1⟩, ⟨%d2, %g2, %hg2, H2⟩⟩
  ihave H0' := (pointsTo_rep_entails (c : Thread nD τ) (st0 t) g0 fullShare) $$ H0
  ihave H1' := (pointsTo_rep_entails (c : Thread nD τ) (st1 t) g1 fullShare) $$ H1
  ihave H2' := (pointsTo_rep_entails (c : Thread nD τ) (st2 t) g2 fullShare) $$ H2
  rw [hg0, hg1, hg2]
  sl_rw [prog_eq t]
  iapply (wp_wand_r Idealize.ShloMosaic.frame (wpE (defs₀ (F := F)) 𝒱₀ (c : Thread nD τ) none) Set.univ)
  isplitl [HΦ HW H0' H1' H2']
  · iapply (point_run m c t W)
    isplitl [HΦ]; · iexact HΦ
    isplitl [HW]; · iexact HW
    isplitl [H0']; · iexact H0'
    isplitl [H1']; · iexact H1'
    iexact H2'
  · iintro %_ ⟨HΦ, ⟨%W', HW⟩, H0, H1, H2⟩
    isplitl [HΦ]; · iexact HΦ
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    iexists _; isplitr; · ipureintro; exact View.read_rep _ _
    iexact H2

/-! ## The run -/

/-- Every fair execution of @main ends with the arguments as launched, the result at `result`, and every counter at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v1) = result m c) ∧ r.2.sem = fun _ => 0) :=
  Pipeline.θ_run_frame_dmaRG cfgs (dats m) 0 launch0 osem defs₀ 𝒱₀ ownSemFacts {main_arg1} {main_v1} (by decide) (by decide) m ρ main
    (fun c => (body_obligation m c).loose) (fun c => (dats m 0 c).share_full fun _ => rfl) (fun _ _ => rfl) (V m)
    (Pipeline.hmain_prefix cfgs 0 defs₀ 𝒱₀ m main hostOps0 hostOps0_sub hostOps0_fresh main_chain) (fun _ _ => rfl) (final m)
    (fun c => .rfl) (fun c => .rfl)
    (Q' := _) (hQ' := fun r h => ⟨fun c => by
      obtain ⟨⟨hR, hG⟩, -⟩ := h
      obtain ⟨hA, hV⟩ := hR c
      refine ⟨⟨?_, ?_, ?_, ?_⟩, ?_⟩
      · exact (hA 0).trans (((dats m 0 c).arrAt_in 0 rfl _).trans (V_main_arg0 m c))
      · exact (hV main_arg1 (by decide)).trans (V_main_arg1 m c)
      · exact (hA 1).trans (((dats m 0 c).arrAt_in 1 rfl _).trans (V_main_arg2 m c))
      · exact (hV main_arg3 (by decide)).trans (V_main_arg3 m c)
      · exact (hG c main_v1 (by decide)).trans (final_out m c), h.2⟩)

end Cert.Proof.Gcn

end
-- ==== Proof.Value.lean ====
/-
  The mathematics of the layer, over the extended reals: what an element of the kernel's result is, and that it is what
  the plain formula `A · (X · W) + b` gives there. The kernel's casts to the short format are the identity here, and its
  products start from zero.
-/
module

public import proofs.«01_k».proof.Proof.Launch
public import Idealize.ShloMosaic.Lib.Claim
public import Idealize.ShloMosaic.Lib.MatmulPlain
public import Idealize.ShloMosaic.Lib.StackMember
public import Idealize.ShloMosaic.Lib.IdealHost

@[expose] public section

noncomputable section

namespace Cert.Proof.Gcn

open Cert.KernelIdeal Cert.KernelIdeal.Gen
open Idealize.ShloMosaic Idealize.ShloMosaic.TcCoe Idealize.ShloMosaic.Tactic
open Idealize.ShloMosaic.ValueIdx (ix1 ix2 eq_ix2)
open scoped BigOperators

/-! ## The formula -/

/-- Entry `(k, j)` of `X · W`. -/
def supportAt (X : FVec Ideal S4096x64 .f32) (W : FVec Ideal S64x64 .f32) (k : Fin 4096) (j : Fin 64) : EReal :=
  ∑ l : Fin 64, X (ix2 k l) * W (ix2 l j)
/-- Entry `(i, j)` of `A · (X · W) + b`. -/
def layerAt (A : FVec Ideal S4096x4096 .f32) (X : FVec Ideal S4096x64 .f32) (W : FVec Ideal S64x64 .f32) (b : FVec Ideal S64 .f32)
    (i : Fin 4096) (j : Fin 64) : EReal :=
  (∑ k : Fin 4096, A (ix2 i k) * supportAt X W k j) + b (ix1 j)

/-! ## The kernel's side -/

/-- The support matrix the kernel stages. -/
theorem support_value (X : FVec Ideal S4096x64 .f32) (W : FVec Ideal S64x64 .f32) (k : Fin 4096) (j : Fin 64) :
    k0_pay2 (F := Ideal) X W (ix2 k j) = supportAt X W k j := by
  unfold k0_pay2
  rw [shapeCast_self]
  show FloatOps.matmul (DotDims.plain 4096 64 64) none X W (constant (F := Ideal) S4096x64 .f32 0x00000000#32) (ix2 k j) = _
  rw [Ideal.matmul_plain_apply]
  show Ideal.ofBits .f32 0x00000000#32 + _ = _
  rw [Ideal.ofBits_zero_f32, zero_add]
  rfl

/-- One block, of any rows of the adjacency matrix, any support matrix and any bias row. -/
theorem block_value (A : FVec Ideal S512x4096 .f32) (S : FVec Ideal S4096x64 .bf16) (B : FVec Ideal S1x64 .f32) (r : Fin 512) (j : Fin 64) :
    blockOf (F := Ideal) A S B (ix2 r j) = (∑ k : Fin 4096, A (ix2 r k) * S (ix2 k j)) + B (ix2 0 j) := by
  unfold blockOf
  show FloatOps.matmul (DotDims.plain 512 4096 64) none (truncf (F := Ideal) .bf16 A bitsLt_bf16_f32) S
      (constant (F := Ideal) S512x64 .f32 0x00000000#32) (ix2 r j) + broadcastTo S512x64 B broadcasts_S1x64_S512x64 (ix2 r j) = _
  rw [Ideal.matmul_plain_apply, broadcastTo_apply B broadcasts_S1x64_S512x64 (ix2 r j) (ix2 0 j) (fun a => by
    match a with
    | ⟨0, _⟩ => rfl
    | ⟨1, _⟩ => rfl)]
  show Ideal.ofBits .f32 0x00000000#32 + _ + _ = _
  rw [Ideal.ofBits_zero_f32, zero_add]
  rfl

/-- The rows a block reads are the block's rows of the adjacency matrix. -/
theorem adj_read (A : FVec Ideal S4096x4096 .f32) (b : Fin 8) (r : Fin 512) (k i : Fin 4096) (hi : i.val = 512 * b.val + r.val) :
    (adjBlk b).view.read (Elt Ideal) A (ix2 r k) = A (ix2 i k) := by
  show A ((adjBlk b).view.emb (ix2 r k)) = _
  refine congrArg A (Shape.idx_ext₂ ?_ ?_)
  · show 512 * b.val + 1 * r.val = i.val
    omega
  · show 0 + 1 * k.val = k.val
    omega

variable (m : (ℓ : Loc nD τ sig) → Buf (Elt Ideal) ℓ) (c : Dev nD)

/-- The bias row the launch finds is the bias. -/
theorem bias_row (j : Fin 64) : (V m c main_v0 : FVec Ideal S1x64 .f32) (ix2 0 j) = (m ((c.tc : Thread nD τ).loc main_arg3) : FVec Ideal S64 .f32) (ix1 j) := by
  entry_read
  exact shapeCast_apply _ shapeCasts_S64_S1x64 _ _ (by
    rw [Shape.rowMajor_val_one, Shape.rowMajor_val_two]
    show j.val = 0 * 64 + j.val
    omega)

/-- An element of the kernel's result is the formula's. -/
theorem result_value (i : Fin 4096) (j : Fin 64) :
    result (F := Ideal) m c (ix2 i j) = layerAt (m ((c.tc : Thread nD τ).loc main_arg1)) (m ((c.tc : Thread nD τ).loc main_arg0))
      (m ((c.tc : Thread nD τ).loc main_arg2)) (m ((c.tc : Thread nD τ).loc main_arg3)) i j := by
  have hi := i.isLt
  show resultBlock m c ⟨i.val / 512, by omega⟩ (ix2 (⟨i.val % 512, by omega⟩ : Fin 512) j) = _
  unfold resultBlock layerAt
  rw [block_value, bias_row, V_main_arg0, V_main_arg1, V_main_arg2]
  refine congrArg (· + _) (Finset.sum_congr rfl fun k _ => ?_)
  rw [support_value, adj_read _ _ _ k i (by show i.val = 512 * (i.val / 512) + i.val % 512; omega)]

/-! ## The plain program's side -/

/-- The plain program's array, of its arguments' contents, is the formula's. -/
theorem plain_value (A : FVec Ideal S4096x4096 .f32) (X : FVec Ideal S4096x64 .f32) (W : FVec Ideal S64x64 .f32) (b : FVec Ideal S64 .f32)
    {d : Fin 1 → Fin 2} {d' : Fin 2 → Fin 2} (hd : d 0 = 1) (hd' : d' 1 = 1) (h1 : S64.BroadcastsInDim S1x64 d) (h2 : S1x64.BroadcastsInDim S4096x64 d')
    (i : Fin 4096) (j : Fin 64) :
    addf (F := Ideal) (Host.dotGeneral (DotDims.plain 4096 4096 64) none A (Host.dotGeneral (DotDims.plain 4096 64 64) none X W))
      (broadcastInDim S4096x64 d' h2 (broadcastInDim S1x64 d h1 b)) (ix2 i j) = layerAt A X W b i j := by
  show Host.dotGeneral (DotDims.plain 4096 4096 64) none A (Host.dotGeneral (DotDims.plain 4096 64 64) none X W) (ix2 i j) + _ = _
  rw [StackMember.dotGeneral_plain_apply,
    broadcastInDim_apply d' h2 _ (ix2 i j) (ix2 0 j) (fun a => by
      match a with
      | ⟨0, _⟩ => rfl
      | ⟨1, _⟩ => show j.val = (ix2 i j (d' 1)).val; rw [hd']),
    broadcastInDim_apply d h1 b (ix2 0 j) (ix1 j) (fun a => by
      match a with
      | ⟨0, _⟩ => show j.val = (ix2 (0 : Fin 1) j (d 0)).val; rw [hd])]
  unfold layerAt
  refine congrArg (· + _) (Finset.sum_congr rfl fun k _ => ?_)
  rw [StackMember.dotGeneral_plain_apply]
  rfl

end Cert.Proof.Gcn

end
-- ==== Proof.lean ====
/-
  The claims about one graph convolution layer: that the kernel's program, at either kind of float value, and the plain
  program end from any memory with their arguments as they were and every counter at zero, and that over the extended reals
  the kernel's result is `A · (X · W) + b`, as the plain program's is.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value
public import Idealize.ShloMosaic.Lib.Quiescent

@[expose] public section

noncomputable section

namespace Cert.Proof

open Idealize.ShloMosaic Idealize.ShloMosaic.TcCoe Idealize.SL.Sem
open Idealize.ShloMosaic.ValueIdx (eq_ix2)

/-! ## The frames -/

/-- The kernel's program over any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).1, h.2⟩) (Gcn.run_main m ρ)
theorem frame_kernelIdeal : Cert.quiescent_KernelIdeal := fun m ρ _ => frame_any (F := Ideal) m ρ
/-- The program that is printed for bit patterns has the same text: its kernel's body is the same at the one label, -/
theorem body_table : Cert.Kernel.defs₀ (F := Bits) = Cert.KernelIdeal.defs₀ (F := Bits) := by
  unfold Cert.Kernel.defs₀ Cert.KernelIdeal.defs₀
  refine congrArg Defs.onTc ?_
  funext l x
  match l, x with
  | ⟨0, _⟩, x => rfl
/-- so its whole table is, -/
theorem table : Cert.Kernel.defs (F := Bits) = Cert.KernelIdeal.defs (F := Bits) :=
  congrArg (Pipeline.defs Cert.Kernel.pcfgs) body_table
/-- and it runs as the other one does. -/
theorem frame_kernel : Cert.quiescent_Kernel := fun m ρ _ => by
  rw [table]
  exact frame_any (F := Bits) m ρ

/-- The plain program leaves its arguments; it has no counters. -/
theorem plain_args (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) := by
  hlo_run
theorem frame_reference : Cert.quiescent_ReferenceIdeal := fun m ρ _ =>
  (θ_run Cert.ReferenceIdeal.defs _ _).mono (fun r h => ⟨h, sem_eq_zero_of_no_sems (by decide) r.2⟩) (plain_args m ρ)

/-! ## The values -/

/-- Over the extended reals the kernel's result is the plain program's, of arguments that agree. -/
theorem algebraic : Cert.algebraic_KernelIdeal_ReferenceIdeal := by
  pair_intro
  · run_from (Gcn.run_main (F := Ideal) m g)
  · hlo_run
    funext i
    rw [eq_ix2 i]
    exact (Gcn.plain_value _ _ _ _ rfl rfl _ _ _ _).trans (Gcn.result_value m c _ _).symm

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
